-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_selected_logits_finite [hPre_selected_logits_finite : Cert.Pre_selected_logits_finite.Facts] (m : (ℓ : Loc Cert.KernelIdeal.nD Cert.KernelIdeal.τ Cert.KernelIdeal.sig) → Buf (Elt Ideal) ℓ) : Prop :=
  ∀ c : Dev Cert.KernelIdeal.nD,
    (Cert.Pre_selected_logits_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_selected_logits_finite [hPre_selected_logits_finite : Cert.Pre_selected_logits_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_selected_logits_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_selected_logits_finite [hKernelIdeal : Cert.KernelIdeal.Facts] [hPre_selected_logits_finite : Cert.Pre_selected_logits_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_selected_logits_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_selected_logits_finite [hReferenceIdeal : Cert.ReferenceIdeal.Facts] [hPre_selected_logits_finite : Cert.Pre_selected_logits_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_selected_logits_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_selected_logits_finite [hKernelIdeal : Cert.KernelIdeal.Facts] [hReferenceIdeal : Cert.ReferenceIdeal.Facts] [hPre_selected_logits_finite : Cert.Pre_selected_logits_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_selected_logits_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_selected_logits_finite : Cert.Pre_selected_logits_finite.Facts),
    quiescent_Kernel (hKernel := hKernel)
    ∧ quiescent_KernelIdeal (hKernelIdeal := hKernelIdeal)
    ∧ quiescent_KernelIdeal_pre_selected_logits_finite (hKernelIdeal := hKernelIdeal) (hPre_selected_logits_finite := hPre_selected_logits_finite)
    ∧ quiescent_ReferenceIdeal (hReferenceIdeal := hReferenceIdeal)
    ∧ quiescent_ReferenceIdeal_pre_selected_logits_finite (hReferenceIdeal := hReferenceIdeal) (hPre_selected_logits_finite := hPre_selected_logits_finite)
    ∧ preserves_Kernel_KernelIdeal
    ∧ algebraic_KernelIdeal_ReferenceIdeal_pre_selected_logits_finite (hKernelIdeal := hKernelIdeal) (hReferenceIdeal := hReferenceIdeal) (hPre_selected_logits_finite := hPre_selected_logits_finite)
-- ==== Pre_selected_logits_finite.lean ====
abbrev S16384x2048 : Shape := ⟨2, ![16384, 2048]⟩
abbrev S64x2048 : Shape := ⟨2, ![64, 2048]⟩
abbrev S64 : Shape := ⟨1, ![64]⟩
abbrev S2048x64 : Shape := ⟨2, ![2048, 64]⟩
abbrev S16384x64 : Shape := ⟨2, ![16384, 64]⟩
abbrev S1x64 : Shape := ⟨2, ![1, 64]⟩
abbrev S16384x8 : Shape := ⟨2, ![16384, 8]⟩
abbrev S_ : Shape := ⟨0, ![]⟩

class Facts : Prop where
  transposes_S64x2048_S2048x64_1_0 : S64x2048.Transposes [1, 0] S2048x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  sliceFits_S16384x64_S16384x8 : S16384x64.Slices (fun _ => 0) S16384x8
  bcast_S_S16384x8 : S_.BroadcastsInDim S16384x8 (![] : Fin 0 → Fin S16384x8.rank)
  dot_S16384x2048_S2048x64_S16384x64_1_0_0_1_n_n_wf : DotDims.WF S16384x2048 S2048x64 S16384x64 [1] [0] [0] [1] [] []

variable [Facts]

def dot_S16384x2048_S2048x64_S16384x64_1_0_0_1_n_n : DotDims S16384x2048 S2048x64 S16384x64 where
  lhsContracting := [1]
  rhsContracting := [0]
  lhsNonContracting := [0]
  rhsNonContracting := [1]
  lhsBatch := []
  rhsBatch := []
  wf := dot_S16384x2048_S2048x64_S16384x64_1_0_0_1_n_n_wf
def fn {F : FTy → Type} [FloatOps F] (main_arg0 : FVec F S16384x2048 .f32) (main_arg1 : FVec F S64x2048 .f32) (main_arg2 : FVec F S64 .f32) : IVec S16384x8 1 :=
  let main_v0 : FVec F S2048x64 .f32 := (transpose S2048x64 [1, 0] · transposes_S64x2048_S2048x64_1_0) main_arg1
  let main_v1 : FVec F S16384x64 .f32 := (fun l r => Host.dotGeneral dot_S16384x2048_S2048x64_S16384x64_1_0_0_1_n_n none l r) main_arg0 main_v0
  let main_v2 : FVec F S1x64 .f32 := broadcastInDim S1x64 ![1] bcast_S64_S1x64_1 main_arg2
  let main_v3 : FVec F S16384x64 .f32 := broadcastInDim S16384x64 ![0, 1] bcast_S1x64_S16384x64_0_1 main_v2
  let main_v4 : FVec F S16384x64 .f32 := addf main_v1 main_v3
  let main_values : FVec F S16384x8 .f32 := (fun x => (Host.topK S16384x8 1 (FloatOps.cmpfTotal .gt) x sliceFits_S16384x64_S16384x8).1) main_v4
  let main_indices : IVec S16384x8 32 := (fun x => (Host.topK S16384x8 1 (FloatOps.cmpfTotal .gt) x sliceFits_S16384x64_S16384x8).2) main_v4
  let main_cst : FVec F S_ .f32 := constant S_ .f32 0xFF800000#32
  let main_v5 : FVec F S16384x8 .f32 := broadcastInDim S16384x8 ![] bcast_S_S16384x8 main_cst
  let main_v6 : IVec S16384x8 1 := cmpf .ogt main_values main_v5
  let main_cst_0 : FVec F S_ .f32 := constant S_ .f32 0x7F800000#32
  let main_v7 : FVec F S16384x8 .f32 := broadcastInDim S16384x8 ![] bcast_S_S16384x8 main_cst_0
  let main_v8 : IVec S16384x8 1 := cmpf .olt main_values main_v7
  let main_v9 : IVec S16384x8 1 := andi main_v6 main_v8
  main_v9
-- ==== Kernel.lean ====
abbrev S16384x2048 : Shape := ⟨2, ![16384, 2048]⟩
abbrev S64x2048 : Shape := ⟨2, ![64, 2048]⟩
abbrev S64 : Shape := ⟨1, ![64]⟩
abbrev S1x64 : Shape := ⟨2, ![1, 64]⟩
abbrev S16384x64 : Shape := ⟨2, ![16384, 64]⟩
abbrev S16384x8 : Shape := ⟨2, ![16384, 8]⟩
abbrev S512x2048 : Shape := ⟨2, ![512, 2048]⟩
abbrev S2048x64 : Shape := ⟨2, ![2048, 64]⟩
abbrev S2048x8 : Shape := ⟨2, ![2048, 8]⟩
abbrev S512x64 : Shape := ⟨2, ![512, 64]⟩
abbrev S128x64 : Shape := ⟨2, ![128, 64]⟩
abbrev S64x128 : Shape := ⟨2, ![64, 128]⟩
abbrev S128 : Shape := ⟨1, ![128]⟩
abbrev S1x128 : Shape := ⟨2, ![1, 128]⟩
abbrev S8x128 : Shape := ⟨2, ![8, 128]⟩
abbrev S128x8 : Shape := ⟨2, ![128, 8]⟩

abbrev nBuf : Space → Nat
  | .hbm => 6
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S64, .f32⟩
  | .hbm, ⟨3, _⟩ => ⟨S1x64, .f32⟩
  | .hbm, ⟨4, _⟩ => ⟨S16384x64, .f32⟩
  | .hbm, ⟨5, _⟩ => ⟨S16384x8, .i32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S64x2048, .f32⟩
  | .local _ .vmem, ⟨9, _⟩ => ⟨S1x64, .f32⟩
  | .local _ .vmem, ⟨10, _⟩ => ⟨S2048x64, .f32⟩
  | .local _ .vmem, ⟨11, _⟩ => ⟨S2048x64, .f32⟩
  | .local _ .vmem, ⟨12, _⟩ => ⟨S2048x8, .i32⟩
  | .local _ .vmem, ⟨13, _⟩ => ⟨S2048x8, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli arg0 c4_i32
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x8 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S16384x2048 : Shape := ⟨2, ![16384, 2048]⟩
abbrev S64x2048 : Shape := ⟨2, ![64, 2048]⟩
abbrev S64 : Shape := ⟨1, ![64]⟩
abbrev S2048x64 : Shape := ⟨2, ![2048, 64]⟩
abbrev S16384x64 : Shape := ⟨2, ![16384, 64]⟩
abbrev S1x64 : Shape := ⟨2, ![1, 64]⟩
abbrev S16384x8 : Shape := ⟨2, ![16384, 8]⟩
abbrev S_ : Shape := ⟨0, ![]⟩
abbrev S16384 : Shape := ⟨1, ![16384]⟩
abbrev S16384x1 : Shape := ⟨2, ![16384, 1]⟩
abbrev S16384x8x1 : Shape := ⟨3, ![16384, 8, 1]⟩
abbrev S16384x8x2 : Shape := ⟨3, ![16384, 8, 2]⟩

abbrev nBuf : Space → Nat
  | .hbm => 47
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S64, .f32⟩
  | .hbm, ⟨3, _⟩ => ⟨S2048x64, .f32⟩
  | .hbm, ⟨4, _⟩ => ⟨S16384x64, .f32⟩
  | .hbm, ⟨5, _⟩ => ⟨S1x64, .f32⟩
  | .hbm, ⟨6, _⟩ => ⟨S16384x64, .f32⟩
  | .hbm, ⟨7, _⟩ => ⟨S16384x64, .f32⟩
  | .hbm, ⟨8, _⟩ => ⟨S16384x8, .f32⟩
  | .hbm, ⟨9, _⟩ => ⟨S16384x8, .i32⟩
  | .hbm, ⟨10, _⟩ => ⟨S_, .f32⟩
  | .hbm, ⟨11, _⟩ => ⟨S16384, .f32⟩
  | .hbm, ⟨12, _⟩ => ⟨S_, .f32⟩
  | .hbm, ⟨13, _⟩ => ⟨S16384, .f32⟩
  | .hbm, ⟨14, _⟩ => ⟨S16384, .f32⟩
  | .hbm, ⟨15, _⟩ => ⟨S16384x1, .f32⟩
  | .hbm, ⟨16, _⟩ => ⟨S16384x8, .f32⟩
  | .hbm, ⟨17, _⟩ => ⟨S16384x8, .f32⟩
  | .hbm, ⟨18, _⟩ => ⟨S16384x8, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S16384x8, .f32⟩
  | .hbm, ⟨23, _⟩ => ⟨S16384x8, .f32⟩
  | .hbm, ⟨24, _⟩ => ⟨S16384, .i32⟩
  | .hbm, ⟨25, _⟩ => ⟨S16384x1, .i32⟩
  | .hbm, ⟨26, _⟩ => ⟨S_, .f32⟩
  | .hbm, ⟨27, _⟩ => ⟨S16384x64, .f32⟩
  | .hbm, ⟨28, _⟩ => ⟨S_, .i32⟩
  | .hbm, ⟨29, _⟩ => ⟨S16384x1, .i32⟩
  | .hbm, ⟨30, _⟩ => ⟨S16384x1, .i1⟩
  | .hbm, ⟨31, _⟩ => ⟨S_, .i32⟩
  | .hbm, ⟨32, _⟩ => ⟨S16384x1, .i32⟩
  | .hbm, ⟨33, _⟩ => ⟨S16384x1, .i32⟩
  | .hbm, ⟨34, _⟩ => ⟨S16384x1, .i32⟩
  | .hbm, ⟨35, _⟩ => ⟨S_, .i32⟩
  | .hbm, ⟨36, _⟩ => ⟨S16384x8, .i32⟩
  | .hbm, ⟨37, _⟩ => ⟨S16384x8, .i1⟩
  | .hbm, ⟨38, _⟩ => ⟨S_, .i32⟩
  | .hbm, ⟨39, _⟩ => ⟨S16384x8, .i32⟩
  | .hbm, ⟨40, _⟩ => ⟨S16384x8, .i32⟩
  | .hbm, ⟨41, _⟩ => ⟨S16384x8, .i32⟩
  | .hbm, ⟨42, _⟩ => ⟨S16384x8, .i32⟩
  | .hbm, ⟨43, _⟩ => ⟨S16384x8x1, .i32⟩
  | .hbm, ⟨44, _⟩ => ⟨S16384x8x1, .i32⟩
  | .hbm, ⟨45, _⟩ => ⟨S16384x8x2, .i32⟩
  | .hbm, ⟨46, _⟩ => ⟨S16384x64, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_values : Ref sig .tc := ⟨.hbm, 8, rfl⟩
abbrev main_indices : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_c : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Proof.Rounds.lean ====
/-
  The body's text, chunk by chunk. A chunk is 128 tokens by 64 experts, held transposed; one round takes the column
  maxima, the first row that attains each, and overwrites that row's entry with −∞. Eight rounds give the eight selected
  experts of every token; what the rounds leave at −∞ is the mask of the scores. `scores_blocks` and `picks_blocks` say that
  the two output blocks are sixteen such chunks.
-/
module

public import proofs.«01_k».proof.Proof.Gen.KernelIdeal.Value

@[expose] public section

set_option maxRecDepth 16384

noncomputable section

namespace Cert.KernelIdeal.Rounds

open Cert.KernelIdeal Cert.KernelIdeal.Gen Idealize.ShloMosaic Idealize.SL.Sem

variable {F : FTy → Type} [FloatOps F]

/-! ## The parts of a round -/

/-- The logits of a block of 512 tokens. -/
def logits (x : Vec F S512x2048 .f32) (w : Vec F S64x2048 .f32) (b : Vec F S1x64 .f32) : FVec F S512x64 .f32 :=
  addf (matmul dot_S512x2048_S64x2048_S512x64_1_1_0_0_n_n none x w (constant S512x64 .f32 0x00000000#32))
    (broadcastTo S512x64 (shapeCast S1x64 b shapeCasts_S1x64_S1x64) broadcasts_S1x64_S512x64)

/-- The expert numbers as floats. -/
def expertF : FVec F S64x128 .f32 := sitofp .f32 (iota .tc S64x128 32 [0] iota_S64x128_d0_w32)

/-- A row spread over the 64 experts. -/
def spread (r : FVec F S1x128 .f32) : FVec F S64x128 .f32 := broadcastTo S64x128 r broadcasts_S1x128_S64x128

/-- The column maxima, as a row. -/
def maxRow (v : FVec F S64x128 .f32) : FVec F S1x128 .f32 :=
  shapeCast S1x128 (multiReduction .maximumf [0] S128 v 0xFF800000#32 reduces_S64x128_S128 (.inl rfl) rfl) shapeCasts_S128_S1x128

/-- The first expert that attains the column maximum, as a row of floats. -/
def firstRow (v : FVec F S64x128 .f32) : FVec F S1x128 .f32 :=
  shapeCast S1x128 (multiReduction .minimumf [0] S128
    (select (cmpf .oeq v (spread (maxRow v))) expertF (broadcast S64x128 (Scalar.ofBits .f32 0x42800000#32)))
    0x7F800000#32 reduces_S64x128_S128 (.inl rfl) rfl) shapeCasts_S128_S1x128

/-- The chunk after a round. -/
def next (v : FVec F S64x128 .f32) : FVec F S64x128 .f32 :=
  select (cmpf .oeq expertF (spread (firstRow v))) (broadcast S64x128 (Scalar.ofBits .f32 0xFF800000#32)) v

/-- The chunk at the start of round `r`. -/
def work (v : FVec F S64x128 .f32) : Nat → FVec F S64x128 .f32
  | 0 => v
  | r + 1 => next (work v r)

/-- What round `r` adds to the denominator. -/
def term (v : FVec F S64x128 .f32) (r : Nat) : FVec F S1x128 .f32 := exp (subf (maxRow (work v r)) (maxRow v))

/-- The denominator after rounds `0 … n`. -/
def denom (v : FVec F S64x128 .f32) : Nat → FVec F S1x128 .f32
  | 0 => term v 0
  | n + 1 => addf (denom v n) (term v (n + 1))

/-- The scores of the chunk, a token a row. -/
def scores (v : FVec F S64x128 .f32) : FVec F S128x64 .f32 :=
  transpose S128x64 [1, 0]
    (select (cmpf .oeq (work v 8) (broadcast S64x128 (Scalar.ofBits .f32 0xFF800000#32)))
      (mulf (exp (subf v (spread (maxRow v))))
        (spread (divf (broadcast S1x128 (Scalar.ofBits .f32 0x3F800000#32)) (denom v 7))))
      (broadcast S64x128 (Scalar.ofBits .f32 0x00000000#32)))
    transposes_S64x128_p1_0_S128x64

/-- The eight selected experts of the chunk's tokens, a token a row. -/
def picks (v : FVec F S64x128 .f32) : IVec S128x8 32 :=
  fptosi 32 (transpose S128x8 [1, 0]
    (concatenate S8x128 0 [⟨S1x128, firstRow (work v 0)⟩, ⟨S1x128, firstRow (work v 1)⟩, ⟨S1x128, firstRow (work v 2)⟩,
      ⟨S1x128, firstRow (work v 3)⟩, ⟨S1x128, firstRow (work v 4)⟩, ⟨S1x128, firstRow (work v 5)⟩,
      ⟨S1x128, firstRow (work v 6)⟩, ⟨S1x128, firstRow (work v 7)⟩]
      concatenates_S1x128_S1x128_S1x128_S1x128_S1x128_S1x128_S1x128_S1x128_S8x128_d0)
    transposes_S8x128_p1_0_S128x8)

/-- The 128 tokens of the logits `l` from row `o`, transposed. -/
def chunk (l : FVec F S512x64 .f32) (o : Nat) (h : S512x64.Slices ![o, 0] S128x64) : FVec F S64x128 .f32 :=
  transpose S64x128 [1, 0] (extractStridedSlice S128x64 ![o, 0] l h) transposes_S128x64_p1_0_S64x128

/-! ## The printed text folds back -/

theorem logits_fold (x : Vec F S512x2048 .f32) (w : Vec F S64x2048 .f32) (b : Vec F S1x64 .f32) :
    addf (matmul dot_S512x2048_S64x2048_S512x64_1_1_0_0_n_n none x w (constant S512x64 .f32 0x00000000#32))
      (broadcastTo S512x64 (shapeCast S1x64 b shapeCasts_S1x64_S1x64) broadcasts_S1x64_S512x64) = logits x w b := rfl

theorem expertF_fold : (sitofp .f32 (iota .tc S64x128 32 [0] iota_S64x128_d0_w32) : FVec F S64x128 .f32) = expertF := rfl

theorem spread_fold (r : FVec F S1x128 .f32) : broadcastTo S64x128 r broadcasts_S1x128_S64x128 = spread r := rfl

theorem maxRow_fold (v : FVec F S64x128 .f32) :
    shapeCast S1x128 (multiReduction .maximumf [0] S128 v 0xFF800000#32 reduces_S64x128_S128 (.inl rfl) rfl) shapeCasts_S128_S1x128
      = maxRow v := rfl

theorem firstRow_fold (v : FVec F S64x128 .f32) :
    shapeCast S1x128 (multiReduction .minimumf [0] S128
      (select (cmpf .oeq v (spread (maxRow v))) expertF (broadcast S64x128 (Scalar.ofBits .f32 0x42800000#32)))
      0x7F800000#32 reduces_S64x128_S128 (.inl rfl) rfl) shapeCasts_S128_S1x128 = firstRow v := rfl

theorem next_fold (v : FVec F S64x128 .f32) :
    select (cmpf .oeq expertF (spread (firstRow v))) (broadcast S64x128 (Scalar.ofBits .f32 0xFF800000#32)) v = next v := rfl

theorem chunk_fold (l : FVec F S512x64 .f32) (o : Nat) (h : S512x64.Slices ![o, 0] S128x64) :
    transpose S64x128 [1, 0] (extractStridedSlice S128x64 ![o, 0] l h) transposes_S128x64_p1_0_S64x128 = chunk l o h := rfl

theorem scores_fold (v : FVec F S64x128 .f32) :
    transpose S128x64 [1, 0]
      (select (cmpf .oeq (next (next (next (next (next (next (next (next v)))))))) (broadcast S64x128 (Scalar.ofBits .f32 0xFF800000#32)))
        (mulf (exp (subf v (spread (maxRow v))))
          (spread (divf (broadcast S1x128 (Scalar.ofBits .f32 0x3F800000#32))
            (addf (addf (addf (addf (addf (addf (addf (exp (subf (maxRow v) (maxRow v)))
              (exp (subf (maxRow (next v)) (maxRow v))))
              (exp (subf (maxRow (next (next v))) (maxRow v))))
              (exp (subf (maxRow (next (next (next v)))) (maxRow v))))
              (exp (subf (maxRow (next (next (next (next v))))) (maxRow v))))
              (exp (subf (maxRow (next (next (next (next (next v)))))) (maxRow v))))
              (exp (subf (maxRow (next (next (next (next (next (next v))))))) (maxRow v))))
              (exp (subf (maxRow (next (next (next (next (next (next (next v)))))))) (maxRow v)))))))
        (broadcast S64x128 (Scalar.ofBits .f32 0x00000000#32)))
      transposes_S64x128_p1_0_S128x64 = scores v := rfl

theorem picks_fold (v : FVec F S64x128 .f32) :
    fptosi 32 (transpose S128x8 [1, 0]
      (concatenate S8x128 0 [⟨S1x128, firstRow v⟩, ⟨S1x128, firstRow (next v)⟩, ⟨S1x128, firstRow (next (next v))⟩,
        ⟨S1x128, firstRow (next (next (next v)))⟩, ⟨S1x128, firstRow (next (next (next (next v))))⟩,
        ⟨S1x128, firstRow (next (next (next (next (next v)))))⟩,
        ⟨S1x128, firstRow (next (next (next (next (next (next v))))))⟩,
        ⟨S1x128, firstRow (next (next (next (next (next (next (next v)))))))⟩]
        concatenates_S1x128_S1x128_S1x128_S1x128_S1x128_S1x128_S1x128_S1x128_S8x128_d0)
      transposes_S8x128_p1_0_S128x8) = picks v := rfl

theorem zero_offsets : (![0, 0] : Fin 2 → Nat) = fun _ => 0 := by
  funext a
  fin_cases a <;> rfl

theorem ld_tokens (x : Vec F S512x2048 .f32) : View.ld x r0_0 = x := View.ld_unit_zero zero_offsets _ x
theorem ld_experts (x : Vec F S64x2048 .f32) : View.ld x r0_1 = x := View.ld_unit_zero zero_offsets _ x
theorem ld_bias (x : Vec F S1x64 .f32) : View.ld x r0_2 = x := View.ld_unit_zero zero_offsets _ x

theorem scores_blocks (x0 : Vec F S512x2048 .f32) (x1 : Vec F S512x2048 .f32) (x2 : Vec F S512x2048 .f32) (x3 : Vec F S512x2048 .f32) (x4 : Vec F S64x2048 .f32) (x5 : Vec F S1x64 .f32) :
    out0_6 x0 x1 x2 x3 x4 x5 = View.canon [⟨r0_33, scores (chunk (logits x3 x4 x5) 384 slices_S512x64_o384_0_S128x64)⟩,
    ⟨r0_31, scores (chunk (logits x3 x4 x5) 256 slices_S512x64_o256_0_S128x64)⟩,
    ⟨r0_29, scores (chunk (logits x3 x4 x5) 128 slices_S512x64_o128_0_S128x64)⟩,
    ⟨r0_27, scores (chunk (logits x3 x4 x5) 0 slices_S512x64_o0_0_S128x64)⟩,
    ⟨r0_25, scores (chunk (logits x2 x4 x5) 384 slices_S512x64_o384_0_S128x64)⟩,
    ⟨r0_23, scores (chunk (logits x2 x4 x5) 256 slices_S512x64_o256_0_S128x64)⟩,
    ⟨r0_21, scores (chunk (logits x2 x4 x5) 128 slices_S512x64_o128_0_S128x64)⟩,
    ⟨r0_19, scores (chunk (logits x2 x4 x5) 0 slices_S512x64_o0_0_S128x64)⟩,
    ⟨r0_17, scores (chunk (logits x1 x4 x5) 384 slices_S512x64_o384_0_S128x64)⟩,
    ⟨r0_15, scores (chunk (logits x1 x4 x5) 256 slices_S512x64_o256_0_S128x64)⟩,
    ⟨r0_13, scores (chunk (logits x1 x4 x5) 128 slices_S512x64_o128_0_S128x64)⟩,
    ⟨r0_11, scores (chunk (logits x1 x4 x5) 0 slices_S512x64_o0_0_S128x64)⟩,
    ⟨r0_9, scores (chunk (logits x0 x4 x5) 384 slices_S512x64_o384_0_S128x64)⟩,
    ⟨r0_7, scores (chunk (logits x0 x4 x5) 256 slices_S512x64_o256_0_S128x64)⟩,
    ⟨r0_5, scores (chunk (logits x0 x4 x5) 128 slices_S512x64_o128_0_S128x64)⟩,
    ⟨r0_3, scores (chunk (logits x0 x4 x5) 0 slices_S512x64_o0_0_S128x64)⟩] := by
  simp -proj (implicitDefEqProofs := false) only [out0_6, ld_tokens, ld_experts, ld_bias, logits_fold, @expertF_fold F _, spread_fold, maxRow_fold, firstRow_fold,
    next_fold, chunk_fold, scores_fold, picks_fold,
    k0_pay1, k0_pay2, k0_pay3, k0_pay4, k0_pay5, k0_pay6, k0_pay7, k0_pay8, k0_pay9, k0_pay10, k0_pay11, k0_pay12, k0_pay13,
    k0_pay14, k0_pay15, k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35, k0_pay36, k0_pay37,
    k0_pay38, k0_pay39, k0_pay40, k0_pay41, k0_pay42, k0_pay43, k0_pay44, k0_pay45, k0_pay46, k0_pay47, k0_pay48, k0_pay49,
    k0_pay50, k0_pay51, k0_pay52, k0_pay53, k0_pay54, k0_pay55, k0_pay56, k0_pay57, k0_pay58, k0_pay59, k0_pay60, k0_pay61,
    k0_pay62, k0_pay63, k0_pay64, k0_pay65, k0_pay66, k0_pay67, k0_pay68, k0_pay69, k0_pay70, k0_pay71, k0_pay72, k0_pay73,
    k0_pay74, k0_pay75, k0_pay76, k0_pay77, k0_pay78, k0_pay79, k0_pay80, k0_pay81, k0_pay82, k0_pay83, k0_pay84, k0_pay85,
    k0_pay86, k0_pay87, k0_pay88, k0_pay89, k0_pay90, k0_pay91, k0_pay92, k0_pay93, k0_pay94, k0_pay95, k0_pay96, k0_pay97,
    k0_pay98, k0_pay99, k0_pay100, k0_pay101, k0_pay102, k0_pay103, k0_pay104, k0_pay105, k0_pay106, k0_pay107, k0_pay108,
    k0_pay109, k0_pay110, k0_pay111, k0_pay112, k0_pay113, k0_pay114, k0_pay115, k0_pay116, k0_pay117, k0_pay118, k0_pay119,
    k0_pay120, k0_pay121, k0_pay122, k0_pay123, k0_pay124, k0_pay125, k0_pay126, k0_pay127, k0_pay128, k0_pay129, k0_pay130,
    k0_pay131, k0_pay132, k0_pay133, k0_pay134, k0_pay135, k0_pay136, k0_pay137, k0_pay138, k0_pay139, k0_pay140, k0_pay141,
    k0_pay142, k0_pay143, k0_pay144, k0_pay145, k0_pay146, k0_pay147, k0_pay148, k0_pay149, k0_pay150, k0_pay151, k0_pay152,
    k0_pay153, k0_pay154, k0_pay155, k0_pay156, k0_pay157, k0_pay158, k0_pay159, k0_pay160, k0_pay161, k0_pay162, k0_pay163,
    k0_pay164, k0_pay165, k0_pay166, k0_pay167, k0_pay168, k0_pay169, k0_pay170, k0_pay171, k0_pay172, k0_pay173, k0_pay174,
    k0_pay175, k0_pay176, k0_pay177, k0_pay178, k0_pay179, k0_pay180, k0_pay181, k0_pay182, k0_pay183, k0_pay184, k0_pay185,
    k0_pay186, k0_pay187, k0_pay188, k0_pay189, k0_pay190, k0_pay191, k0_pay192, k0_pay193, k0_pay194, k0_pay195, k0_pay196,
    k0_pay197, k0_pay198, k0_pay199, k0_pay200, k0_pay201, k0_pay202, k0_pay203, k0_pay204, k0_pay205, k0_pay206, k0_pay207,
    k0_pay208, k0_pay209, k0_pay210, k0_pay211, k0_pay212, k0_pay213, k0_pay214, k0_pay215, k0_pay216, k0_pay217, k0_pay218,
    k0_pay219, k0_pay220, k0_pay221, k0_pay222, k0_pay223, k0_pay224, k0_pay225, k0_pay226, k0_pay227, k0_pay228, k0_pay229,
    k0_pay230, k0_pay231, k0_pay232, k0_pay233, k0_pay234, k0_pay235, k0_pay236, k0_pay237, k0_pay238, k0_pay239, k0_pay240,
    k0_pay241, k0_pay242, k0_pay243, k0_pay244, k0_pay245, k0_pay246, k0_pay247, k0_pay248, k0_pay249, k0_pay250, k0_pay251,
    k0_pay252, k0_pay253, k0_pay254, k0_pay255, k0_pay256, k0_pay257, k0_pay258, k0_pay259, k0_pay260, k0_pay261, k0_pay262,
    k0_pay263, k0_pay264, k0_pay265, k0_pay266, k0_pay267, k0_pay268, k0_pay269, k0_pay270, k0_pay271, k0_pay272, k0_pay273,
    k0_pay274, k0_pay275, k0_pay276, k0_pay277, k0_pay278, k0_pay279, k0_pay280, k0_pay281, k0_pay282, k0_pay283, k0_pay284,
    k0_pay285, k0_pay286, k0_pay287, k0_pay288, k0_pay289, k0_pay290, k0_pay291, k0_pay292, k0_pay293, k0_pay294, k0_pay295,
    k0_pay296, k0_pay297, k0_pay298, k0_pay299, k0_pay300, k0_pay301, k0_pay302, k0_pay303, k0_pay304, k0_pay305, k0_pay306,
    k0_pay307, k0_pay308, k0_pay309, k0_pay310, k0_pay311, k0_pay312, k0_pay313, k0_pay314, k0_pay315, k0_pay316, k0_pay317,
    k0_pay318, k0_pay319, k0_pay320, k0_pay321, k0_pay322, k0_pay323, k0_pay324, k0_pay325, k0_pay326, k0_pay327, k0_pay328,
    k0_pay329, k0_pay330, k0_pay331, k0_pay332, k0_pay333, k0_pay334, k0_pay335, k0_pay336, k0_pay337, k0_pay338, k0_pay339,
    k0_pay340, k0_pay341, k0_pay342, k0_pay343, k0_pay344, k0_pay345, k0_pay346, k0_pay347, k0_pay348, k0_pay349, k0_pay350,
    k0_pay351, k0_pay352, k0_pay353, k0_pay354, k0_pay355, k0_pay356, k0_pay357, k0_pay358, k0_pay359, k0_pay360, k0_pay361,
    k0_pay362, k0_pay363, k0_pay364, k0_pay365, k0_pay366, k0_pay367, k0_pay368, k0_pay369, k0_pay370, k0_pay371, k0_pay372,
    k0_pay373, k0_pay374, k0_pay375, k0_pay376, k0_pay377, k0_pay378, k0_pay379, k0_pay380, k0_pay381, k0_pay382, k0_pay383,
    k0_pay384, k0_pay385, k0_pay386, k0_pay387, k0_pay388, k0_pay389, k0_pay390, k0_pay391, k0_pay392, k0_pay393, k0_pay394,
    k0_pay395, k0_pay396, k0_pay397, k0_pay398, k0_pay399, k0_pay400, k0_pay401, k0_pay402, k0_pay403, k0_pay404, k0_pay405,
    k0_pay406, k0_pay407, k0_pay408, k0_pay409, k0_pay410, k0_pay411, k0_pay412, k0_pay413, k0_pay414, k0_pay415, k0_pay416,
    k0_pay417, k0_pay418, k0_pay419, k0_pay420, k0_pay421, k0_pay422, k0_pay423, k0_pay424, k0_pay425, k0_pay426, k0_pay427,
    k0_pay428, k0_pay429, k0_pay430, k0_pay431, k0_pay432, k0_pay433, k0_pay434, k0_pay435, k0_pay436, k0_pay437, k0_pay438,
    k0_pay439, k0_pay440, k0_pay441, k0_pay442, k0_pay443, k0_pay444, k0_pay445, k0_pay446, k0_pay447, k0_pay448, k0_pay449,
    k0_pay450, k0_pay451, k0_pay452, k0_pay453, k0_pay454, k0_pay455, k0_pay456, k0_pay457, k0_pay458, k0_pay459, k0_pay460,
    k0_pay461, k0_pay462, k0_pay463, k0_pay464, k0_pay465, k0_pay466, k0_pay467, k0_pay468, k0_pay469, k0_pay470, k0_pay471,
    k0_pay472, k0_pay473, k0_pay474, k0_pay475, k0_pay476, k0_pay477, k0_pay478, k0_pay479, k0_pay480, k0_pay481, k0_pay482,
    k0_pay483, k0_pay484, k0_pay485, k0_pay486, k0_pay487, k0_pay488, k0_pay489, k0_pay490, k0_pay491, k0_pay492, k0_pay493,
    k0_pay494, k0_pay495, k0_pay496, k0_pay497, k0_pay498, k0_pay499, k0_pay500, k0_pay501, k0_pay502, k0_pay503, k0_pay504,
    k0_pay505, k0_pay506, k0_pay507, k0_pay508, k0_pay509, k0_pay510, k0_pay511, k0_pay512, k0_pay513, k0_pay514, k0_pay515,
    k0_pay516, k0_pay517, k0_pay518, k0_pay519, k0_pay520, k0_pay521, k0_pay522, k0_pay523, k0_pay524, k0_pay525, k0_pay526,
    k0_pay527, k0_pay528, k0_pay529, k0_pay530, k0_pay531, k0_pay532, k0_pay533, k0_pay534, k0_pay535, k0_pay536, k0_pay537,
    k0_pay538, k0_pay539, k0_pay540, k0_pay541, k0_pay542, k0_pay543, k0_pay544, k0_pay545, k0_pay546, k0_pay547, k0_pay548,
    k0_pay549, k0_pay550, k0_pay551, k0_pay552, k0_pay553, k0_pay554, k0_pay555, k0_pay556, k0_pay557, k0_pay558, k0_pay559,
    k0_pay560, k0_pay561, k0_pay562, k0_pay563, k0_pay564, k0_pay565, k0_pay566, k0_pay567, k0_pay568, k0_pay569, k0_pay570,
    k0_pay571, k0_pay572, k0_pay573, k0_pay574, k0_pay575, k0_pay576, k0_pay577, k0_pay578, k0_pay579, k0_pay580, k0_pay581,
    k0_pay582, k0_pay583, k0_pay584, k0_pay585, k0_pay586, k0_pay587, k0_pay588, k0_pay589, k0_pay590, k0_pay591, k0_pay592,
    k0_pay593, k0_pay594, k0_pay595, k0_pay596, k0_pay597, k0_pay598, k0_pay599, k0_pay600, k0_pay601, k0_pay602, k0_pay603,
    k0_pay604, k0_pay605, k0_pay606, k0_pay607, k0_pay608, k0_pay609, k0_pay610, k0_pay611, k0_pay612, k0_pay613, k0_pay614,
    k0_pay615, k0_pay616, k0_pay617, k0_pay618, k0_pay619, k0_pay620, k0_pay621, k0_pay622, k0_pay623, k0_pay624, k0_pay625,
    k0_pay626, k0_pay627, k0_pay628, k0_pay629, k0_pay630, k0_pay631, k0_pay632, k0_pay633, k0_pay634, k0_pay635, k0_pay636,
    k0_pay637, k0_pay638, k0_pay639]

theorem picks_blocks (x0 : Vec F S512x2048 .f32) (x1 : Vec F S512x2048 .f32) (x2 : Vec F S512x2048 .f32) (x3 : Vec F S512x2048 .f32) (x4 : Vec F S64x2048 .f32) (x5 : Vec F S1x64 .f32) :
    out0_7 x0 x1 x2 x3 x4 x5 = View.canon [⟨r0_34, picks (chunk (logits x3 x4 x5) 384 slices_S512x64_o384_0_S128x64)⟩,
    ⟨r0_32, picks (chunk (logits x3 x4 x5) 256 slices_S512x64_o256_0_S128x64)⟩,
    ⟨r0_30, picks (chunk (logits x3 x4 x5) 128 slices_S512x64_o128_0_S128x64)⟩,
    ⟨r0_28, picks (chunk (logits x3 x4 x5) 0 slices_S512x64_o0_0_S128x64)⟩,
    ⟨r0_26, picks (chunk (logits x2 x4 x5) 384 slices_S512x64_o384_0_S128x64)⟩,
    ⟨r0_24, picks (chunk (logits x2 x4 x5) 256 slices_S512x64_o256_0_S128x64)⟩,
    ⟨r0_22, picks (chunk (logits x2 x4 x5) 128 slices_S512x64_o128_0_S128x64)⟩,
    ⟨r0_20, picks (chunk (logits x2 x4 x5) 0 slices_S512x64_o0_0_S128x64)⟩,
    ⟨r0_18, picks (chunk (logits x1 x4 x5) 384 slices_S512x64_o384_0_S128x64)⟩,
    ⟨r0_16, picks (chunk (logits x1 x4 x5) 256 slices_S512x64_o256_0_S128x64)⟩,
    ⟨r0_14, picks (chunk (logits x1 x4 x5) 128 slices_S512x64_o128_0_S128x64)⟩,
    ⟨r0_12, picks (chunk (logits x1 x4 x5) 0 slices_S512x64_o0_0_S128x64)⟩,
    ⟨r0_10, picks (chunk (logits x0 x4 x5) 384 slices_S512x64_o384_0_S128x64)⟩,
    ⟨r0_8, picks (chunk (logits x0 x4 x5) 256 slices_S512x64_o256_0_S128x64)⟩,
    ⟨r0_6, picks (chunk (logits x0 x4 x5) 128 slices_S512x64_o128_0_S128x64)⟩,
    ⟨r0_4, picks (chunk (logits x0 x4 x5) 0 slices_S512x64_o0_0_S128x64)⟩] := by
  simp -proj (implicitDefEqProofs := false) only [out0_7, ld_tokens, ld_experts, ld_bias, logits_fold, @expertF_fold F _, spread_fold, maxRow_fold, firstRow_fold,
    next_fold, chunk_fold, scores_fold, picks_fold,
    k0_pay1, k0_pay2, k0_pay3, k0_pay4, k0_pay5, k0_pay6, k0_pay7, k0_pay8, k0_pay9, k0_pay10, k0_pay11, k0_pay12, k0_pay13,
    k0_pay14, k0_pay15, k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35, k0_pay36, k0_pay37,
    k0_pay38, k0_pay39, k0_pay40, k0_pay41, k0_pay42, k0_pay43, k0_pay44, k0_pay45, k0_pay46, k0_pay47, k0_pay48, k0_pay49,
    k0_pay50, k0_pay51, k0_pay52, k0_pay53, k0_pay54, k0_pay55, k0_pay56, k0_pay57, k0_pay58, k0_pay59, k0_pay60, k0_pay61,
    k0_pay62, k0_pay63, k0_pay64, k0_pay65, k0_pay66, k0_pay67, k0_pay68, k0_pay69, k0_pay70, k0_pay71, k0_pay72, k0_pay73,
    k0_pay74, k0_pay75, k0_pay76, k0_pay77, k0_pay78, k0_pay79, k0_pay80, k0_pay81, k0_pay82, k0_pay83, k0_pay84, k0_pay85,
    k0_pay86, k0_pay87, k0_pay88, k0_pay89, k0_pay90, k0_pay91, k0_pay92, k0_pay93, k0_pay94, k0_pay95, k0_pay96, k0_pay97,
    k0_pay98, k0_pay99, k0_pay100, k0_pay101, k0_pay102, k0_pay103, k0_pay104, k0_pay105, k0_pay106, k0_pay107, k0_pay108,
    k0_pay109, k0_pay110, k0_pay111, k0_pay112, k0_pay113, k0_pay114, k0_pay115, k0_pay116, k0_pay117, k0_pay118, k0_pay119,
    k0_pay120, k0_pay121, k0_pay122, k0_pay123, k0_pay124, k0_pay125, k0_pay126, k0_pay127, k0_pay128, k0_pay129, k0_pay130,
    k0_pay131, k0_pay132, k0_pay133, k0_pay134, k0_pay135, k0_pay136, k0_pay137, k0_pay138, k0_pay139, k0_pay140, k0_pay141,
    k0_pay142, k0_pay143, k0_pay144, k0_pay145, k0_pay146, k0_pay147, k0_pay148, k0_pay149, k0_pay150, k0_pay151, k0_pay152,
    k0_pay153, k0_pay154, k0_pay155, k0_pay156, k0_pay157, k0_pay158, k0_pay159, k0_pay160, k0_pay161, k0_pay162, k0_pay163,
    k0_pay164, k0_pay165, k0_pay166, k0_pay167, k0_pay168, k0_pay169, k0_pay170, k0_pay171, k0_pay172, k0_pay173, k0_pay174,
    k0_pay175, k0_pay176, k0_pay177, k0_pay178, k0_pay179, k0_pay180, k0_pay181, k0_pay182, k0_pay183, k0_pay184, k0_pay185,
    k0_pay186, k0_pay187, k0_pay188, k0_pay189, k0_pay190, k0_pay191, k0_pay192, k0_pay193, k0_pay194, k0_pay195, k0_pay196,
    k0_pay197, k0_pay198, k0_pay199, k0_pay200, k0_pay201, k0_pay202, k0_pay203, k0_pay204, k0_pay205, k0_pay206, k0_pay207,
    k0_pay208, k0_pay209, k0_pay210, k0_pay211, k0_pay212, k0_pay213, k0_pay214, k0_pay215, k0_pay216, k0_pay217, k0_pay218,
    k0_pay219, k0_pay220, k0_pay221, k0_pay222, k0_pay223, k0_pay224, k0_pay225, k0_pay226, k0_pay227, k0_pay228, k0_pay229,
    k0_pay230, k0_pay231, k0_pay232, k0_pay233, k0_pay234, k0_pay235, k0_pay236, k0_pay237, k0_pay238, k0_pay239, k0_pay240,
    k0_pay241, k0_pay242, k0_pay243, k0_pay244, k0_pay245, k0_pay246, k0_pay247, k0_pay248, k0_pay249, k0_pay250, k0_pay251,
    k0_pay252, k0_pay253, k0_pay254, k0_pay255, k0_pay256, k0_pay257, k0_pay258, k0_pay259, k0_pay260, k0_pay261, k0_pay262,
    k0_pay263, k0_pay264, k0_pay265, k0_pay266, k0_pay267, k0_pay268, k0_pay269, k0_pay270, k0_pay271, k0_pay272, k0_pay273,
    k0_pay274, k0_pay275, k0_pay276, k0_pay277, k0_pay278, k0_pay279, k0_pay280, k0_pay281, k0_pay282, k0_pay283, k0_pay284,
    k0_pay285, k0_pay286, k0_pay287, k0_pay288, k0_pay289, k0_pay290, k0_pay291, k0_pay292, k0_pay293, k0_pay294, k0_pay295,
    k0_pay296, k0_pay297, k0_pay298, k0_pay299, k0_pay300, k0_pay301, k0_pay302, k0_pay303, k0_pay304, k0_pay305, k0_pay306,
    k0_pay307, k0_pay308, k0_pay309, k0_pay310, k0_pay311, k0_pay312, k0_pay313, k0_pay314, k0_pay315, k0_pay316, k0_pay317,
    k0_pay318, k0_pay319, k0_pay320, k0_pay321, k0_pay322, k0_pay323, k0_pay324, k0_pay325, k0_pay326, k0_pay327, k0_pay328,
    k0_pay329, k0_pay330, k0_pay331, k0_pay332, k0_pay333, k0_pay334, k0_pay335, k0_pay336, k0_pay337, k0_pay338, k0_pay339,
    k0_pay340, k0_pay341, k0_pay342, k0_pay343, k0_pay344, k0_pay345, k0_pay346, k0_pay347, k0_pay348, k0_pay349, k0_pay350,
    k0_pay351, k0_pay352, k0_pay353, k0_pay354, k0_pay355, k0_pay356, k0_pay357, k0_pay358, k0_pay359, k0_pay360, k0_pay361,
    k0_pay362, k0_pay363, k0_pay364, k0_pay365, k0_pay366, k0_pay367, k0_pay368, k0_pay369, k0_pay370, k0_pay371, k0_pay372,
    k0_pay373, k0_pay374, k0_pay375, k0_pay376, k0_pay377, k0_pay378, k0_pay379, k0_pay380, k0_pay381, k0_pay382, k0_pay383,
    k0_pay384, k0_pay385, k0_pay386, k0_pay387, k0_pay388, k0_pay389, k0_pay390, k0_pay391, k0_pay392, k0_pay393, k0_pay394,
    k0_pay395, k0_pay396, k0_pay397, k0_pay398, k0_pay399, k0_pay400, k0_pay401, k0_pay402, k0_pay403, k0_pay404, k0_pay405,
    k0_pay406, k0_pay407, k0_pay408, k0_pay409, k0_pay410, k0_pay411, k0_pay412, k0_pay413, k0_pay414, k0_pay415, k0_pay416,
    k0_pay417, k0_pay418, k0_pay419, k0_pay420, k0_pay421, k0_pay422, k0_pay423, k0_pay424, k0_pay425, k0_pay426, k0_pay427,
    k0_pay428, k0_pay429, k0_pay430, k0_pay431, k0_pay432, k0_pay433, k0_pay434, k0_pay435, k0_pay436, k0_pay437, k0_pay438,
    k0_pay439, k0_pay440, k0_pay441, k0_pay442, k0_pay443, k0_pay444, k0_pay445, k0_pay446, k0_pay447, k0_pay448, k0_pay449,
    k0_pay450, k0_pay451, k0_pay452, k0_pay453, k0_pay454, k0_pay455, k0_pay456, k0_pay457, k0_pay458, k0_pay459, k0_pay460,
    k0_pay461, k0_pay462, k0_pay463, k0_pay464, k0_pay465, k0_pay466, k0_pay467, k0_pay468, k0_pay469, k0_pay470, k0_pay471,
    k0_pay472, k0_pay473, k0_pay474, k0_pay475, k0_pay476, k0_pay477, k0_pay478, k0_pay479, k0_pay480, k0_pay481, k0_pay482,
    k0_pay483, k0_pay484, k0_pay485, k0_pay486, k0_pay487, k0_pay488, k0_pay489, k0_pay490, k0_pay491, k0_pay492, k0_pay493,
    k0_pay494, k0_pay495, k0_pay496, k0_pay497, k0_pay498, k0_pay499, k0_pay500, k0_pay501, k0_pay502, k0_pay503, k0_pay504,
    k0_pay505, k0_pay506, k0_pay507, k0_pay508, k0_pay509, k0_pay510, k0_pay511, k0_pay512, k0_pay513, k0_pay514, k0_pay515,
    k0_pay516, k0_pay517, k0_pay518, k0_pay519, k0_pay520, k0_pay521, k0_pay522, k0_pay523, k0_pay524, k0_pay525, k0_pay526,
    k0_pay527, k0_pay528, k0_pay529, k0_pay530, k0_pay531, k0_pay532, k0_pay533, k0_pay534, k0_pay535, k0_pay536, k0_pay537,
    k0_pay538, k0_pay539, k0_pay540, k0_pay541, k0_pay542, k0_pay543, k0_pay544, k0_pay545, k0_pay546, k0_pay547, k0_pay548,
    k0_pay549, k0_pay550, k0_pay551, k0_pay552, k0_pay553, k0_pay554, k0_pay555, k0_pay556, k0_pay557, k0_pay558, k0_pay559,
    k0_pay560, k0_pay561, k0_pay562, k0_pay563, k0_pay564, k0_pay565, k0_pay566, k0_pay567, k0_pay568, k0_pay569, k0_pay570,
    k0_pay571, k0_pay572, k0_pay573, k0_pay574, k0_pay575, k0_pay576, k0_pay577, k0_pay578, k0_pay579, k0_pay580, k0_pay581,
    k0_pay582, k0_pay583, k0_pay584, k0_pay585, k0_pay586, k0_pay587, k0_pay588, k0_pay589, k0_pay590, k0_pay591, k0_pay592,
    k0_pay593, k0_pay594, k0_pay595, k0_pay596, k0_pay597, k0_pay598, k0_pay599, k0_pay600, k0_pay601, k0_pay602, k0_pay603,
    k0_pay604, k0_pay605, k0_pay606, k0_pay607, k0_pay608, k0_pay609, k0_pay610, k0_pay611, k0_pay612, k0_pay613, k0_pay614,
    k0_pay615, k0_pay616, k0_pay617, k0_pay618, k0_pay619, k0_pay620, k0_pay621, k0_pay622, k0_pay623, k0_pay624, k0_pay625,
    k0_pay626, k0_pay627, k0_pay628, k0_pay629, k0_pay630, k0_pay631, k0_pay632, k0_pay633, k0_pay634, k0_pay635, k0_pay636,
    k0_pay637, k0_pay638, k0_pay639]

end Cert.KernelIdeal.Rounds

end
-- ==== Proof.Column.lean ====
/-
  One token's 64 logits as a column of extended reals. `pos f` lists the positions from the greatest value down, equal values
  by position: the order of a stable sort. Eight rounds of "take the maximum, take the first position that attains it,
  overwrite that entry with −∞" walk down this list (`top_left`, `first_left`, `left_succ`), as long as the entries they take
  are above −∞. `score` is the softmax over the eight entries taken, and zero elsewhere; `masked_score` meets the form that
  multiplies by the reciprocal of the denominator.
-/
module

public import Idealize.ShloMosaic.Lib.SortFacts
public import Idealize.ShloMosaic.PureOps.Ideal.Laws

@[expose] public section

noncomputable section

namespace Cert.Column

open Idealize.ShloMosaic

/-! ## The order of the stable sort -/

section Order
variable {n : Nat} (f : Fin n → EReal)

/-- Position `i` stands ahead of `j`: a greater value, or the same value at a lower position. -/
def Ahead (i j : Fin n) : Prop := f j < f i ∨ f j = f i ∧ i < j

/-- The comparison the sort is given. -/
def greater (i j : Fin n) : Bool := decide (f j < f i)

variable {f}

theorem Ahead.le {i j : Fin n} (h : Ahead f i j) : f j ≤ f i := h.elim le_of_lt fun h => h.1.le

theorem Ahead.lt {i j : Fin n} (h : Ahead f i j) (e : f j = f i) : i < j :=
  h.elim (fun h => absurd e h.ne) fun h => h.2

variable (f)

/-- A position below all those of an ordered list is inserted in order. -/
theorem ordered_insert (a : Fin n) : ∀ l : List (Fin n), (∀ b ∈ l, a < b) → l.Pairwise (Ahead f) →
    (insertBefore (greater f) a l).Pairwise (Ahead f)
  | [], _, _ => List.pairwise_singleton _ _
  | b :: l, lower, ord => by
    have tail := List.pairwise_cons.mp ord
    by_cases hb : f a < f b
    · have text : insertBefore (greater f) a (b :: l) = b :: insertBefore (greater f) a l := by
        simp [insertBefore, greater, hb]
      rw [text]
      have rest := ordered_insert a l (fun c hc => lower c (.tail _ hc)) tail.2
      refine List.Pairwise.cons (fun c hc => ?_) rest
      have hc' := (perm_insertBefore (greater f) a l).subset hc
      simp only [List.mem_cons] at hc'
      exact hc'.elim (fun e => e ▸ Or.inl hb) (tail.1 c)
    · have text : insertBefore (greater f) a (b :: l) = a :: b :: l := by simp [insertBefore, greater, hb]
      rw [text]
      refine List.Pairwise.cons (fun c hc => ?_) ord
      have low : f c ≤ f a := by
        rcases List.mem_cons.mp hc with e | hc'
        · exact e ▸ not_lt.mp hb
        · exact (tail.1 c hc').le.trans (not_lt.mp hb)
      exact low.lt_or_eq.imp id fun e => ⟨e, lower c hc⟩

/-- Sorting a list of ascending positions puts it in order. -/
theorem ordered_sort : ∀ l : List (Fin n), l.Pairwise (· < ·) → (stableSort (greater f) l).Pairwise (Ahead f)
  | [], _ => List.Pairwise.nil
  | a :: l, up => by
    have tail := List.pairwise_cons.mp up
    exact ordered_insert f a _ (fun b hb => tail.1 b ((perm_stableSort (greater f) l).subset hb)) (ordered_sort l tail.2)

/-- The position that the sort puts at place `r`. -/
def pos (r : Fin n) : Fin n := sortedFrom (greater f) r

theorem pos_injective : Function.Injective (pos f) := sortedFrom_injective _

theorem pos_surjective : Function.Surjective (pos f) := sortedFrom_surjective _

theorem ahead_pos {r s : Fin n} (h : r < s) : Ahead f (pos f r) (pos f s) := by
  have ord := ordered_sort f (List.finRange n) (List.pairwise_lt_finRange n)
  exact List.pairwise_iff_get.mp ord (r.cast (length_sortPositions n (greater f)).symm)
    (s.cast (length_sortPositions n (greater f)).symm) h

/-! ## The rounds -/

/-- Position `i` is taken in the first `r` rounds. -/
def Taken (r : Nat) (i : Fin n) : Prop := ∃ s : Fin n, s.val < r ∧ pos f s = i

open Classical in
/-- The column after `r` rounds. -/
def left (r : Nat) (i : Fin n) : EReal := if Taken f r i then ⊥ else f i

theorem left_zero (i : Fin n) : left f 0 i = f i := if_neg fun ⟨_, h, _⟩ => absurd h (Nat.not_lt_zero _)

theorem taken_pos {r : Nat} {s : Fin n} : Taken f r (pos f s) ↔ s.val < r :=
  ⟨fun ⟨_, h, e⟩ => pos_injective f e ▸ h, fun h => ⟨s, h, rfl⟩⟩

theorem left_pos (r : Fin n) : left f r (pos f r) = f (pos f r) :=
  if_neg fun h => absurd ((taken_pos f).mp h) (lt_irrefl _)

theorem left_succ (r : Fin n) (i : Fin n) : left f (r + 1) i = if i = pos f r then ⊥ else left f r i := by
  obtain ⟨s, rfl⟩ := pos_surjective f i
  unfold left
  simp only [taken_pos, (pos_injective f).eq_iff, Fin.ext_iff]
  split_ifs <;> first | rfl | omega

theorem left_le (r : Fin n) (i : Fin n) : left f r i ≤ left f r (pos f r) := by
  obtain ⟨s, rfl⟩ := pos_surjective f i
  rw [left_pos]
  unfold left
  split_ifs with h
  · exact bot_le
  · rw [taken_pos, not_lt] at h
    rcases h.lt_or_eq with h | h
    · exact (ahead_pos f h).le
    · rw [Fin.ext h]

theorem le_of_left_eq (r : Fin n) (fin : ⊥ < f (pos f r)) (i : Fin n) (e : left f r i = f (pos f r)) : pos f r ≤ i := by
  obtain ⟨s, rfl⟩ := pos_surjective f i
  unfold left at e
  split_ifs at e with h
  · exact absurd e fin.ne
  · rw [taken_pos, not_lt] at h
    rcases h.lt_or_eq with h | h
    · exact ((ahead_pos f h).lt e).le
    · rw [Fin.ext h]

/-- A fold of the maximum from −∞ is the value at a position whose value is greatest. -/
theorem fold_max (g : Fin n → EReal) (p : Fin n) (h : ∀ i, g i ≤ g p) : Finset.univ.fold max ⊥ g = g p :=
  le_antisymm (Finset.fold_max_le _ |>.mpr ⟨bot_le, fun i _ => h i⟩)
    (Finset.le_fold_max _ |>.mpr (Or.inr ⟨p, Finset.mem_univ p, le_rfl⟩))

/-- A fold of the minimum from +∞ is the value at a position whose value is least. -/
theorem fold_min (g : Fin n → EReal) (p : Fin n) (h : ∀ i, g p ≤ g i) : Finset.univ.fold min ⊤ g = g p :=
  le_antisymm (Finset.fold_min_le _ |>.mpr (Or.inr ⟨p, Finset.mem_univ p, le_rfl⟩))
    (Finset.le_fold_min _ |>.mpr ⟨le_top, fun i _ => h i⟩)

/-- Round `r` finds the value at `pos f r`. -/
theorem top_left (r : Fin n) : Finset.univ.fold max ⊥ (left f r) = f (pos f r) :=
  (fold_max _ _ (left_le f r)).trans (left_pos f r)

/-- A position as an extended real. -/
def num (i : Fin n) : EReal := ((i.val : ℝ) : EReal)

theorem num_le {i j : Fin n} : num i ≤ num j ↔ i ≤ j := by
  unfold num; rw [EReal.coe_le_coe_iff, Nat.cast_le, Fin.le_def]

theorem num_inj {i j : Fin n} : num i = num j ↔ i = j := by
  unfold num; rw [EReal.coe_eq_coe_iff, Nat.cast_inj, Fin.ext_iff]

/-- Round `r` finds the position `pos f r`: the first that attains the maximum. -/
theorem first_left (r : Fin n) (fin : ⊥ < f (pos f r)) (big : EReal) (hbig : ((n : ℝ) : EReal) ≤ big) :
    Finset.univ.fold min ⊤ (fun i : Fin n => if left f r i = f (pos f r) then num i else big) = num (pos f r) := by
  refine (fold_min _ (pos f r) fun i => ?_).trans (if_pos (left_pos f r))
  rw [if_pos (left_pos f r)]
  split_ifs with h
  · exact num_le.mpr (le_of_left_eq f r fin i h)
  · refine le_trans ?_ hbig
    unfold num
    rw [EReal.coe_le_coe_iff, Nat.cast_le]
    exact (pos f r).isLt.le

end Order

/-! ## The scores -/

section Scores
variable (f : Fin 64 → EReal)

/-- The expert selected in round `s`. -/
def pick (s : Fin 8) : Fin 64 := pos f (s.castLE (by decide))

/-- The eight selected logits are finite. -/
def Finite (f : Fin 64 → EReal) : Prop := ∀ s : Fin 8, ⊥ < f (pick f s) ∧ f (pick f s) < ⊤

/-- The first slot's entry is the greatest of the eight. -/
theorem pick_le (s : Fin 8) : f (pick f s) ≤ f (pick f 0) := by
  rcases Nat.eq_zero_or_pos s.val with h | h
  · obtain rfl : s = 0 := Fin.ext h
    exact le_rfl
  · exact (ahead_pos f (r := (0 : Fin 8).castLE (by decide)) (s := s.castLE (by decide)) h).le

theorem pick_injective : Function.Injective (pick f) := fun _ _ h =>
  Fin.castLE_injective (by decide) (pos_injective f h)

theorem taken_eight {i : Fin 64} : Taken f 8 i ↔ ∃ s : Fin 8, pick f s = i :=
  ⟨fun ⟨s, h, e⟩ => ⟨⟨s.val, h⟩, e⟩, fun ⟨s, e⟩ => ⟨s.castLE (by decide), s.isLt, e⟩⟩

/-- What round `s` adds to the denominator. -/
def weight (s : Fin 8) : EReal := Ideal.exp (f (pick f s) - f (pick f 0))

/-- The softmax's denominator. -/
def total : EReal := ∑ s : Fin 8, weight f s

open Classical in
/-- The softmax over the selected logits; zero at the other experts. -/
def score (i : Fin 64) : EReal :=
  if ∃ s : Fin 8, pick f s = i then Ideal.div (Ideal.exp (f i - f (pick f 0))) (total f) else 0

variable {f}

theorem score_pick (s : Fin 8) : score f (pick f s) = Ideal.div (weight f s) (total f) := if_pos ⟨s, rfl⟩

theorem score_rest {i : Fin 64} (h : ∀ s, pick f s ≠ i) : score f i = 0 := if_neg fun ⟨s, e⟩ => h s e

/-- A finite selected logit is a real number. -/
theorem Finite.real (hf : Finite f) (s : Fin 8) : ∃ x : ℝ, f (pick f s) = x :=
  ⟨(f (pick f s)).toReal, (EReal.coe_toReal (hf s).2.ne (hf s).1.ne').symm⟩

theorem Finite.weight (hf : Finite f) (s : Fin 8) : ∃ x : ℝ, 0 < x ∧ weight f s = x := by
  obtain ⟨a, ha⟩ := hf.real s
  obtain ⟨b, hb⟩ := hf.real 0
  refine ⟨Real.exp (a - b), Real.exp_pos _, ?_⟩
  unfold Column.weight
  rw [ha, hb, ← EReal.coe_sub]
  rfl

theorem Finite.total (hf : Finite f) : ∃ x : ℝ, 0 < x ∧ total f = x := by
  choose w pos eq using hf.weight
  refine ⟨∑ s, w s, Finset.sum_pos (fun s _ => pos s) Finset.univ_nonempty, ?_⟩
  unfold Column.total
  simp only [Fin.sum_univ_eight, eq, EReal.coe_add]

/-- The kernel's form: a masked product with the reciprocal of the denominator. -/
theorem masked_score (hf : Finite f) (i : Fin 64) :
    (if left f 8 i = ⊥ then Ideal.exp (f i - f (pick f 0)) * Ideal.div 1 (total f) else 0) = score f i := by
  obtain ⟨d, dpos, hd⟩ := hf.total
  have d0 : Column.total f ≠ 0 := by rw [hd]; exact_mod_cast dpos.ne'
  unfold score
  have ht := taken_eight f (i := i)
  unfold left
  by_cases h : Taken f 8 i
  · rw [if_pos h, if_pos rfl, if_pos (ht.mp h)]
    unfold Ideal.div
    rw [if_neg d0, if_neg d0, one_mul]
  · rw [if_neg h, if_neg (mt ht.mpr h)]
    split_ifs with e
    · obtain ⟨b, hb⟩ := hf.real 0
      rw [e, hb, EReal.bot_sub, Ideal.exp_bot, zero_mul]
    · rfl

end Scores

end Cert.Column

end
-- ==== Proof.Reads.lean ====
/-
  The kernel's block functions read at one index. A chunk of 128 token rows is handled with the experts down the
  columns; column `q` of the chunk is one token's list of 64 logits, and the two results the chunk leaves (scores and
  picks) are, at that token, the column functions of `Column`.
-/
module

public import proofs.«01_k».proof.Proof.Rounds
public import proofs.«01_k».proof.Proof.Column
public import Idealize.ShloMosaic.Lib.Pointwise
public import Idealize.ShloMosaic.Lib.ValueIdx

@[expose] public section
set_option maxRecDepth 16384
noncomputable section
namespace Cert.KernelIdeal.Rounds
open Cert.KernelIdeal Cert.KernelIdeal.Gen Idealize.ShloMosaic Idealize.SL.Sem

/-- A 32-bit pattern of the text, as an extended real. -/
theorem bits_bot : Ideal.ofBits .f32 0xFF800000#32 = ⊥ := by simp [Ideal.ofBits, Ideal.ieee]
theorem bits_top : Ideal.ofBits .f32 0x7F800000#32 = ⊤ := by simp [Ideal.ofBits, Ideal.ieee]
theorem bits_experts : Ideal.ofBits .f32 0x42800000#32 = ((64 : ℝ) : EReal) := by
  simp [Ideal.ofBits, Ideal.ieee]
  rw [← EReal.coe_mul]
  norm_num

theorem select_eq {α : Type} (x y : EReal) (a b : α) : Scalar.select (Ideal.cmp .oeq x y) a b = if x = y then a else b := by
  by_cases h : x = y <;> simp [Ideal.cmp, Scalar.select, h]

theorem spread_apply (r : FVec Ideal S1x128 .f32) (i : Fin 64) (q : Fin 128) : spread r (ix2 i q) = r (ix2 0 q) := by
  pointwise [spread]

theorem row_apply (v : FVec Ideal S128 .f32) (h : S128.ShapeCasts S1x128) (q : Fin 128) : shapeCast S1x128 v h (ix2 0 q) = v (ix1 q) := by
  pointwise

theorem lift_apply (h : S64x128.Reduces [0] S128) (q : Fin 128) (i : Fin 64) : h.lift (ix1 q) i = ix2 i q := by
  funext a; match a with | ⟨0, _⟩ => rfl | ⟨1, _⟩ => rfl

theorem maxRow_apply (v : FVec Ideal S64x128 .f32) (q : Fin 128) :
    maxRow v (ix2 0 q) = Finset.univ.fold max ⊥ fun i : Fin 64 => v (ix2 i q) := by
  refine (row_apply _ _ q).trans ((Ideal.multiReduction_maximumf_single _ _ _ _ _ _).trans ?_)
  rw [Ideal.ofBits_def, bits_bot]
  exact congrArg (Finset.univ.fold max ⊥) (funext fun i => congrArg v (lift_apply _ q i))

theorem toInt_small (i : Fin 64) : (BitVec.ofNat 32 i.val).toInt = i.val := by
  rw [BitVec.toInt_ofNat', Int.bmod_eq_of_le] <;> omega

theorem fptosi_num (i : Fin 64) : Ideal.fptosi 32 (Column.num i) = BitVec.ofNat 32 i.val := by
  unfold Ideal.fptosi Column.num
  rw [Ideal.toIntClamped_coe, if_pos (Nat.cast_nonneg _), Int.floor_natCast]
  rw [min_eq_right, max_eq_right, BitVec.ofInt_natCast] <;> omega

theorem expertF_apply (i : Fin 64) (q : Fin 128) : expertF (F := Ideal) (ix2 i q) = Column.num i := by
  pointwise [expertF]
  show (((BitVec.ofNat 32 i.val).toInt : ℝ) : EReal) = _
  rw [toInt_small]
  rfl

theorem firstRow_apply (v : FVec Ideal S64x128 .f32) (q : Fin 128) :
    firstRow v (ix2 0 q) = Finset.univ.fold min ⊤ fun i : Fin 64 => if v (ix2 i q) = maxRow v (ix2 0 q) then Column.num i else ((64 : ℝ) : EReal) := by
  refine (row_apply _ _ q).trans ((multiReduction_minimumf_eq_fold _ _ _ _ _ _).trans (((Shape.Reduces.fold_filter_drop_single _ _ _ _ _).trans ?_)))
  rw [Ideal.ofBits_def, bits_top]
  refine congrArg (Finset.univ.fold min ⊤) (funext fun (i : Fin 64) => ?_)
  refine (congrArg _ (lift_apply _ q i)).trans ?_
  show Scalar.select (Ideal.cmp .oeq (v (ix2 i q)) (spread (maxRow v) (ix2 i q))) (expertF (F := Ideal) (ix2 i q)) (Ideal.ofBits .f32 0x42800000#32) = _
  rw [select_eq, spread_apply, expertF_apply, bits_experts]

theorem next_apply (v : FVec Ideal S64x128 .f32) (i : Fin 64) (q : Fin 128) :
    next v (ix2 i q) = if Column.num i = firstRow v (ix2 0 q) then ⊥ else v (ix2 i q) := by
  show Scalar.select (Ideal.cmp .oeq (expertF (F := Ideal) (ix2 i q)) (spread (firstRow v) (ix2 i q))) (Ideal.ofBits .f32 0xFF800000#32) (v (ix2 i q)) = _
  rw [select_eq, spread_apply, expertF_apply, bits_bot]

theorem rows_apply (r : Fin 8 → FVec Ideal S1x128 .f32) (i : Fin 8) (q : Fin 128) :
    concatenate S8x128 0 [⟨S1x128, r 0⟩, ⟨S1x128, r 1⟩, ⟨S1x128, r 2⟩, ⟨S1x128, r 3⟩, ⟨S1x128, r 4⟩, ⟨S1x128, r 5⟩,
      ⟨S1x128, r 6⟩, ⟨S1x128, r 7⟩]
      concatenates_S1x128_S1x128_S1x128_S1x128_S1x128_S1x128_S1x128_S1x128_S8x128_d0 (ix2 i q) = r i (ix2 0 q) := by
  fin_cases i <;> pointwise

theorem turn_apply (x : FVec Ideal S8x128 .f32) (q : Fin 128) (s : Fin 8) :
    transpose S128x8 [1, 0] x transposes_S8x128_p1_0_S128x8 (ix2 q s) = x (ix2 s q) := by
  pointwise

theorem chunk_apply (l : FVec Ideal S512x64 .f32) (o : Nat) (h : S512x64.Slices ![o, 0] S128x64) (i : Fin 64) (q : Fin 128) (ho : o + q.val < 512) :
    chunk l o h (ix2 i q) = l (ix2 ⟨o + q.val, ho⟩ i) := by
  pointwise [chunk]

/-! ## The rounds of a column -/

/-- Column `q` of a chunk: the logits of one token. -/
def column (v : FVec Ideal S64x128 .f32) (q : Fin 128) (i : Fin 64) : EReal := v (ix2 i q)

section Rounds
variable (v : FVec Ideal S64x128 .f32) (q : Fin 128)

theorem maxRow_column : maxRow v (ix2 0 q) = Finset.univ.fold max ⊥ (column v q) := maxRow_apply v q

theorem firstRow_column : firstRow v (ix2 0 q)
    = Finset.univ.fold min ⊤ fun i => if column v q i = Finset.univ.fold max ⊥ (column v q) then Column.num i else ((64 : ℝ) : EReal) := by
  rw [← maxRow_column]
  exact firstRow_apply v q

/-- At a chunk whose column stands after `r` rounds, the round finds the next entry of the order. -/
theorem round (f : Fin 64 → EReal) (hf : Column.Finite f) (r : Fin 8) (h : column v q = Column.left f r.val) :
    maxRow v (ix2 0 q) = f (Column.pick f r) ∧ firstRow v (ix2 0 q) = Column.num (Column.pick f r)
      ∧ column (next v) q = Column.left f (r.val + 1) := by
  have top : Finset.univ.fold max ⊥ (column v q) = f (Column.pick f r) := by
    rw [h]; exact Column.top_left f (r.castLE (by decide))
  have first : firstRow v (ix2 0 q) = Column.num (Column.pick f r) := by
    rw [firstRow_column, top, h]
    exact Column.first_left f (r.castLE (by decide)) (hf r).1 _ (by norm_num)
  refine ⟨(maxRow_column v q).trans top, first, funext fun i => ?_⟩
  refine (next_apply v i q).trans ?_
  rw [first]
  simp only [Column.num_inj]
  refine Eq.trans ?_ (Column.left_succ f (r.castLE (by decide)) i).symm
  exact if_congr Iff.rfl rfl (congrFun h i)

variable (hf : Column.Finite (column v q))
include hf

theorem work_column : ∀ r : Nat, r ≤ 8 → column (work v r) q = Column.left (column v q) r
  | 0, _ => funext fun i => (Column.left_zero _ i).symm
  | r + 1, h => (round (work v r) q _ hf ⟨r, h⟩ (work_column r (Nat.le_of_succ_le h))).2.2

theorem maxRow_work (r : Fin 8) : maxRow (work v r.val) (ix2 0 q) = column v q (Column.pick (column v q) r) :=
  (round (work v r.val) q _ hf r (work_column v q hf r.val r.isLt.le)).1

theorem firstRow_work (r : Fin 8) : firstRow (work v r.val) (ix2 0 q) = Column.num (Column.pick (column v q) r) :=
  (round (work v r.val) q _ hf r (work_column v q hf r.val r.isLt.le)).2.1

theorem term_apply (r : Fin 8) : term v r.val (ix2 0 q) = Column.weight (column v q) r := by
  have h : term v r.val (ix2 0 q) = Ideal.exp (maxRow (work v r.val) (ix2 0 q) - maxRow v (ix2 0 q)) := rfl
  have h0 : maxRow v (ix2 0 q) = column v q (Column.pick (column v q) 0) := maxRow_work v q hf 0
  rw [h, maxRow_work v q hf r, h0]
  rfl

omit hf in
theorem denom_sum : ∀ n : Nat, denom v n (ix2 0 q) = ∑ r ∈ Finset.range (n + 1), term v r (ix2 0 q)
  | 0 => (Finset.sum_range_one fun r => term v r (ix2 0 q)).symm
  | n + 1 => by
    rw [Finset.sum_range_succ, ← denom_sum n]
    rfl

theorem denom_apply : denom v 7 (ix2 0 q) = Column.total (column v q) := by
  rw [denom_sum, Finset.sum_range]
  exact Finset.sum_congr rfl fun r _ => term_apply v q hf r

theorem scores_apply (i : Fin 64) : scores v (ix2 q i) = Column.score (column v q) i := by
  have h : scores v (ix2 q i) = Scalar.select (Ideal.cmp .oeq (column (work v 8) q i) (Ideal.ofBits .f32 0xFF800000#32))
      (Ideal.exp (column v q i - spread (maxRow v) (ix2 i q))
        * spread (divf (broadcast S1x128 (Scalar.ofBits .f32 0x3F800000#32)) (denom v 7)) (ix2 i q))
      (Ideal.ofBits .f32 0x00000000#32) := by
    pointwise [scores, column]
  have h0 : maxRow v (ix2 0 q) = column v q (Column.pick (column v q) 0) := maxRow_work v q hf 0
  have hd : divf (broadcast S1x128 (Scalar.ofBits .f32 0x3F800000#32)) (denom v 7) (ix2 0 q)
      = Ideal.div 1 (Column.total (column v q)) := by
    rw [← denom_apply v q hf]
    pointwise
  rw [h, select_eq, work_column v q hf 8 le_rfl, bits_bot, Ideal.ofBits_zero_f32, spread_apply, spread_apply, h0, hd]
  exact Column.masked_score hf i

theorem picks_apply (s : Fin 8) : picks v (ix2 q s) = BitVec.ofNat 32 (Column.pick (column v q) s).val := by
  have h : picks v (ix2 q s) = Ideal.fptosi 32 (firstRow (work v s.val) (ix2 0 q)) := by
    exact congrArg (Ideal.fptosi 32) ((turn_apply _ q s).trans (rows_apply (fun r => firstRow (work v r.val)) s q))
  rw [h, firstRow_work v q hf s]
  exact fptosi_num _

end Rounds

theorem logits_apply (x : Vec Ideal S512x2048 .f32) (w : Vec Ideal S64x2048 .f32) (b : Vec Ideal S1x64 .f32) (i : Fin 64) (q : Fin 512) :
    logits x w b (ix2 q i) = (∑ k : Fin 2048, x (ix2 q k) * w (ix2 i k)) + b (ix2 0 i) := by
  unfold logits
  rw [shapeCast_id]
  pointwise
end Cert.KernelIdeal.Rounds
end
-- ==== Proof.Tiles.lean ====
/-
  From blocks to arrays. A grid point handles 2048 token rows: four blocks of 512 rows, each in four chunks of 128. The
  sixteen stores of a point tile its block of each result, and the eight points tile the result arrays, so both arrays
  are read at a token as the column functions of that token's logits.
-/
module

public import proofs.«01_k».proof.Proof.Reads
public import proofs.«01_k».proof.Proof.Gen.KernelIdeal.Value
public import Idealize.ShloMosaic.Lib.Pipeline.ValueKit

@[expose] public section
set_option maxRecDepth 16384
noncomputable section

namespace Cert.Column
open Idealize.ShloMosaic

/-- The logits of token `r`: its row of `x` against each row of `w`, plus the bias. -/
def lane (x : FVec Ideal (⟨2, ![16384, 2048]⟩ : Shape) .f32) (w : FVec Ideal (⟨2, ![64, 2048]⟩ : Shape) .f32)
    (b : FVec Ideal (⟨1, ![64]⟩ : Shape) .f32) (r : Fin 16384) (i : Fin 64) : EReal :=
  (∑ k : Fin 2048, x (ix2 r k) * w (ix2 i k)) + b (ix1 i)

end Cert.Column

namespace Cert.KernelIdeal.Rounds
open Cert.KernelIdeal Cert.KernelIdeal.Gen Idealize.ShloMosaic Idealize.ShloMosaic.TcCoe Idealize.SL.Sem

/-! ## One stored tile -/

section Tile
variable (L : Fin 2048 → Fin 64 → EReal) (hf : ∀ r, Column.Finite (L r))
  (l : FVec Ideal S512x64 .f32) (base o : ℕ) (hl : ∀ (q : Fin 512) (i : Fin 64) (r : Fin 2048), r.val = base + q.val → l (ix2 q i) = L r i)
  (h : S512x64.Slices ![o, 0] S128x64)
include hl

theorem column_chunk (q : Fin 128) (ho : o + q.val < 512) (r : Fin 2048) (hr : r.val = base + o + q.val) :
    column (chunk l o h) q = L r := by
  funext i
  exact (chunk_apply l o h i q ho).trans (hl _ i r (by simp only; omega))

include hf

theorem scores_tile (ho : o ≤ 384) (y : S2048x64.Idx) (n : ℕ) (hn : n = base + o) :
    View.TileAt (Val := Elt Ideal) (e := .f32) y ![n, 0] S128x64.size (scores (chunk l o h)) (Column.score (L (y 0)) (y 1)) := by
  intro x hy
  obtain ⟨q, e, rfl⟩ : ∃ (q : Fin 128) (e : Fin 64), x = ix2 q e := ⟨x 0, x 1, by funext a; fin_cases a <;> rfl⟩
  have r : (y 0).val = n + q.val := hy 0
  have i : (y 1).val = 0 + e.val := hy 1
  have hc := column_chunk L l base o hl h q (by omega) (y 0) (by omega)
  rw [scores_apply _ q (by rw [hc]; exact hf _), hc]
  exact congrArg _ (Fin.ext (by omega))

theorem picks_tile (ho : o ≤ 384) (y : S2048x8.Idx) (n : ℕ) (hn : n = base + o) :
    View.TileAt (Val := Elt Ideal) (e := .i32) y ![n, 0] S128x8.size (picks (chunk l o h)) (BitVec.ofNat 32 (Column.pick (L (y 0)) (y 1)).val) := by
  intro x hy
  obtain ⟨q, e, rfl⟩ : ∃ (q : Fin 128) (e : Fin 8), x = ix2 q e := ⟨x 0, x 1, by funext a; fin_cases a <;> rfl⟩
  have r : (y 0).val = n + q.val := hy 0
  have i : (y 1).val = 0 + e.val := hy 1
  have hc := column_chunk L l base o hl h q (by omega) (y 0) (by omega)
  rw [picks_apply _ q (by rw [hc]; exact hf _), hc]
  exact congrArg (fun s => BitVec.ofNat 32 (Column.pick (L (y 0)) s).val) (Fin.ext (by omega))

end Tile

/-! ## A point's block of each result -/

section Block
variable (x0 x1 x2 x3 : FVec Ideal S512x2048 .f32) (x4 : FVec Ideal S64x2048 .f32) (x5 : FVec Ideal S1x64 .f32)
  (L : Fin 2048 → Fin 64 → EReal) (hf : ∀ r, Column.Finite (L r))
  (h0 : ∀ (q : Fin 512) (i : Fin 64) (r : Fin 2048), r.val = 0 + q.val → logits (F := Ideal) x0 x4 x5 (ix2 q i) = L r i)
  (h1 : ∀ (q : Fin 512) (i : Fin 64) (r : Fin 2048), r.val = 512 + q.val → logits (F := Ideal) x1 x4 x5 (ix2 q i) = L r i)
  (h2 : ∀ (q : Fin 512) (i : Fin 64) (r : Fin 2048), r.val = 1024 + q.val → logits (F := Ideal) x2 x4 x5 (ix2 q i) = L r i)
  (h3 : ∀ (q : Fin 512) (i : Fin 64) (r : Fin 2048), r.val = 1536 + q.val → logits (F := Ideal) x3 x4 x5 (ix2 q i) = L r i)
include hf h0 h1 h2 h3

theorem block_scores (y : S2048x64.Idx) : out0_6 (F := Ideal) x0 x1 x2 x3 x4 x5 y = Column.score (L (y 0)) (y 1) := by
  rw [scores_blocks]
  refine View.canon_eq_of_allAt _ y _ (cover0_6 _ _ _ _ _ _ _ _ _ _ _ _ _ _ _ _ y) ?_
  iterate 4 refine View.allAt_cons_unit _ _ _ _ _ (scores_tile L hf _ 1536 _ h3 _ (by decide) y _ (by rfl)) ?_
  iterate 4 refine View.allAt_cons_unit _ _ _ _ _ (scores_tile L hf _ 1024 _ h2 _ (by decide) y _ (by rfl)) ?_
  iterate 4 refine View.allAt_cons_unit _ _ _ _ _ (scores_tile L hf _ 512 _ h1 _ (by decide) y _ (by rfl)) ?_
  iterate 4 refine View.allAt_cons_unit _ _ _ _ _ (scores_tile L hf _ 0 _ h0 _ (by decide) y _ (by rfl)) ?_
  exact View.allAt_nil _ _

theorem block_picks (y : S2048x8.Idx) : out0_7 (F := Ideal) x0 x1 x2 x3 x4 x5 y = BitVec.ofNat 32 (Column.pick (L (y 0)) (y 1)).val := by
  rw [picks_blocks]
  refine View.canon_eq_of_allAt _ y _ (cover0_7 _ _ _ _ _ _ _ _ _ _ _ _ _ _ _ _ y) ?_
  iterate 4 refine View.allAt_cons_unit _ _ _ _ _ (picks_tile L hf _ 1536 _ h3 _ (by decide) y _ (by rfl)) ?_
  iterate 4 refine View.allAt_cons_unit _ _ _ _ _ (picks_tile L hf _ 1024 _ h2 _ (by decide) y _ (by rfl)) ?_
  iterate 4 refine View.allAt_cons_unit _ _ _ _ _ (picks_tile L hf _ 512 _ h1 _ (by decide) y _ (by rfl)) ?_
  iterate 4 refine View.allAt_cons_unit _ _ _ _ _ (picks_tile L hf _ 0 _ h0 _ (by decide) y _ (by rfl)) ?_
  exact View.allAt_nil _ _

end Block

/-! ## The windows at coordinates -/

theorem index_0 : ∀ t : Fin cfg0.N, win0_0.index t = ![4 * t.val, 0] := (by decide +kernel : ∀ t : Fin grid0.N, _)
theorem index_1 : ∀ t : Fin cfg0.N, win0_1.index t = ![4 * t.val + 1, 0] := (by decide +kernel : ∀ t : Fin grid0.N, _)
theorem index_2 : ∀ t : Fin cfg0.N, win0_2.index t = ![4 * t.val + 2, 0] := (by decide +kernel : ∀ t : Fin grid0.N, _)
theorem index_3 : ∀ t : Fin cfg0.N, win0_3.index t = ![4 * t.val + 3, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![t.val, 0] := (by decide +kernel : ∀ t : Fin grid0.N, _)
theorem index_7 : ∀ t : Fin cfg0.N, win0_7.index t = ![t.val, 0] := (by decide +kernel : ∀ t : Fin grid0.N, _)

variable (m : (ℓ : Loc nD τ sig) → Buf (Elt Ideal) ℓ) (c : Dev nD)

theorem rows_0 (t : Fin cfg0.N) (q : Fin 512) (k : Fin 2048) (R : Fin 16384) (hR : R.val = 2048 * t.val + q.val) :
    iblk m c 0 t (ix2 q k) = m ((c : Thread nD τ).loc main_arg0) (ix2 R k) := by
  refine Eq.trans ?_ (congrFun (V_main_arg0 m c) (ix2 R k))
  blk_simp [iblk]
  refine congrArg (V m c main_arg0) ?_
  blk_ext [index_0]

theorem rows_1 (t : Fin cfg0.N) (q : Fin 512) (k : Fin 2048) (R : Fin 16384) (hR : R.val = 2048 * t.val + 512 + q.val) :
    iblk m c 1 t (ix2 q k) = m ((c : Thread nD τ).loc main_arg0) (ix2 R k) := by
  refine Eq.trans ?_ (congrFun (V_main_arg0 m c) (ix2 R k))
  blk_simp [iblk]
  refine congrArg (V m c main_arg0) ?_
  blk_ext [index_1]

theorem rows_2 (t : Fin cfg0.N) (q : Fin 512) (k : Fin 2048) (R : Fin 16384) (hR : R.val = 2048 * t.val + 1024 + q.val) :
    iblk m c 2 t (ix2 q k) = m ((c : Thread nD τ).loc main_arg0) (ix2 R k) := by
  refine Eq.trans ?_ (congrFun (V_main_arg0 m c) (ix2 R k))
  blk_simp [iblk]
  refine congrArg (V m c main_arg0) ?_
  blk_ext [index_2]

theorem rows_3 (t : Fin cfg0.N) (q : Fin 512) (k : Fin 2048) (R : Fin 16384) (hR : R.val = 2048 * t.val + 1536 + q.val) :
    iblk m c 3 t (ix2 q k) = m ((c : Thread nD τ).loc main_arg0) (ix2 R k) := by
  refine Eq.trans ?_ (congrFun (V_main_arg0 m c) (ix2 R k))
  blk_simp [iblk]
  refine congrArg (V m c main_arg0) ?_
  blk_ext [index_3]

theorem weights (t : Fin cfg0.N) (i : Fin 64) (k : Fin 2048) :
    iblk m c 4 t (ix2 i k) = m ((c : Thread nD τ).loc main_arg1) (ix2 i k) := by
  refine Eq.trans ?_ (congrFun (V_main_arg1 m c) (ix2 i k))
  blk_simp [iblk]
  refine congrArg (V m c main_arg1) ?_
  blk_ext [index_4]

theorem bias_entry (i : Fin 64) : V m c main_v0 (ix2 0 i) = m ((c : Thread nD τ).loc main_arg2) (ix1 i) := by
  have e : V m c main_v0 = shapeCast S1x64 (m ((c : Thread nD τ).loc main_arg2)) shapeCasts_S64_S1x64 := by
    show StableHlo.after hostOps0 _ _ = _
    after_results
    rfl
  rw [e]
  pointwise

theorem bias (t : Fin cfg0.N) (i : Fin 64) : iblk m c 5 t (ix2 0 i) = m ((c : Thread nD τ).loc main_arg2) (ix1 i) := by
  refine Eq.trans ?_ (bias_entry m c i)
  blk_simp [iblk]
  refine congrArg (V m c main_v0) ?_
  blk_ext [index_5]

/-! ## The result arrays -/

/-- The logits of token `r` of device `c`'s arguments. -/
abbrev laneOf (r : Fin 16384) : Fin 64 → EReal :=
  Column.lane (m ((c : Thread nD τ).loc main_arg0)) (m ((c : Thread nD τ).loc main_arg1)) (m ((c : Thread nD τ).loc main_arg2)) r

/-- A block's logits are its tokens' lanes, whichever of a point's four blocks it is. -/
theorem lane_block (x : FVec Ideal S512x2048 .f32) (t : Fin cfg0.N) (q : Fin 512) (i : Fin 64) (R : Fin 16384)
    (hx : ∀ k, x (ix2 q k) = m ((c : Thread nD τ).loc main_arg0) (ix2 R k)) :
    logits (F := Ideal) x (iblk m c 4 t) (iblk m c 5 t) (ix2 q i) = laneOf m c R i := by
  rw [logits_apply]
  exact congrArg₂ (· + ·) (Finset.sum_congr rfl fun k _ => congrArg₂ (· * ·) (hx k) (weights m c t i k)) (bias m c t i)

variable (hf : ∀ r, Column.Finite (laneOf m c r))

/-- Token `r` of point `t`'s 2048. -/
def token (t : Fin cfg0.N) (r : Fin 2048) : Fin 16384 :=
  ⟨2048 * t.val + r.val, by have := t.isLt; have hN : cfg0.N = 8 := N_0; omega⟩

include hf

theorem point_scores (t : Fin cfg0.N) (y : S2048x64.Idx) :
    out0_6 (iblk m c 0 t) (iblk m c 1 t) (iblk m c 2 t) (iblk m c 3 t) (iblk m c 4 t) (iblk m c 5 t) y
      = Column.score (laneOf m c (token t (y 0))) (y 1) :=
  block_scores _ _ _ _ _ _ (fun r => laneOf m c (token t r)) (fun r => hf _)
    (fun q i r hr => lane_block m c _ t q i _ fun k => rows_0 m c t q k _ (by simp only [token]; omega))
    (fun q i r hr => lane_block m c _ t q i _ fun k => rows_1 m c t q k _ (by simp only [token]; omega))
    (fun q i r hr => lane_block m c _ t q i _ fun k => rows_2 m c t q k _ (by simp only [token]; omega))
    (fun q i r hr => lane_block m c _ t q i _ fun k => rows_3 m c t q k _ (by simp only [token]; omega)) y

theorem point_picks (t : Fin cfg0.N) (y : S2048x8.Idx) :
    out0_7 (iblk m c 0 t) (iblk m c 1 t) (iblk m c 2 t) (iblk m c 3 t) (iblk m c 4 t) (iblk m c 5 t) y
      = BitVec.ofNat 32 (Column.pick (laneOf m c (token t (y 0))) (y 1)).val :=
  block_picks _ _ _ _ _ _ (fun r => laneOf m c (token t r)) (fun r => hf _)
    (fun q i r hr => lane_block m c _ t q i _ fun k => rows_0 m c t q k _ (by simp only [token]; omega))
    (fun q i r hr => lane_block m c _ t q i _ fun k => rows_1 m c t q k _ (by simp only [token]; omega))
    (fun q i r hr => lane_block m c _ t q i _ fun k => rows_2 m c t q k _ (by simp only [token]; omega))
    (fun q i r hr => lane_block m c _ t q i _ fun k => rows_3 m c t q k _ (by simp only [token]; omega)) y

theorem final_scores : (dats m 0 c).arrAt 6 cfg0.N = fun y : S16384x64.Idx => Column.score (laneOf m c (y 0)) (y 1) := by
  refine (dats m 0 c).arrAt_eq_of_covers 6 _ (by decide +kernel) fun t _ y => ?_
  blk_simp
  rw [after0_6]
  refine (point_scores m c hf t y).trans ?_
  refine congrArg₂ (fun r i => Column.score (laneOf m c r) i) (Fin.ext ?_) (Fin.ext ?_)
  · show 2048 * t.val + (y 0).val = _
    blk_simp [index_6]
    omega
  · blk_simp [index_6]

theorem final_picks : (dats m 0 c).arrAt 7 cfg0.N = fun y : S16384x8.Idx => BitVec.ofNat 32 (Column.pick (laneOf m c (y 0)) (y 1)).val := by
  refine (dats m 0 c).arrAt_eq_of_covers 7 _ (by decide +kernel) fun t _ y => ?_
  blk_simp
  rw [after0_7]
  refine (point_picks m c hf t y).trans ?_
  refine congrArg₂ (fun r s => BitVec.ofNat 32 (Column.pick (laneOf m c r) s).val) (Fin.ext ?_) (Fin.ext ?_)
  · show 2048 * t.val + (y 0).val = _
    blk_simp [index_7]
    omega
  · blk_simp [index_7]

end Cert.KernelIdeal.Rounds
-- ==== Proof.Dense.lean ====
/-
  The reference's results read at one token: the eight greatest logits and their positions, the softmax over those
  eight, and the scatter of the eight shares into a row of zeros.
-/
module

public import proofs.«01_k».proof.Proof.Tiles
public import proofs.«01_k».proof.Pre_selected_logits_finite
public import proofs.«01_k».proof.Proof.Gen.ReferenceIdeal.Run
public import Idealize.ShloMosaic.Lib.Routing.OpsSet

@[expose] public section
set_option maxRecDepth 16384
noncomputable section

namespace Cert.Column
open Idealize.ShloMosaic

/-- What the ordered selection takes from row `r` of a table of logits: at slot `s`, the logit at `pick` … -/
theorem topK_row (x : FVec Ideal (⟨2, ![16384, 64]⟩ : Shape) .f32) (h : (⟨2, ![16384, 64]⟩ : Shape).Slices (fun _ => 0) ⟨2, ![16384, 8]⟩)
    (r : Fin 16384) (s : Fin 8) :
    (Host.topK ⟨2, ![16384, 8]⟩ 1 (FloatOps.cmpfTotal (F := Ideal) .gt) x h).1 (ix2 r s) = x (ix2 r (pick (fun i => x (ix2 r i)) s))
      ∧ (Host.topK ⟨2, ![16384, 8]⟩ 1 (FloatOps.cmpfTotal (F := Ideal) .gt) x h).2 (ix2 r s)
          = BitVec.ofNat 32 (pick (fun i => x (ix2 r i)) s).val := by
  have along (k : Fin 64) : Shape.Idx.along (s := ⟨2, ![16384, 64]⟩) (fun a => ⟨0 + (ix2 r s (a.cast h.1.symm)).val,
      Nat.lt_of_lt_of_le (Nat.add_lt_add_left (ix2 r s _).isLt _) (h.2 a)⟩) 1 k = ix2 r k := by
    funext a
    fin_cases a
    · exact Fin.ext (Nat.zero_add _)
    · rfl
  have order : (fun k k' : Fin 64 => FloatOps.cmpfTotal (F := Ideal) (φ := .f32) .gt (x (ix2 r k)) (x (ix2 r k')) == 1#1)
      = greater fun i => x (ix2 r i) := by
    funext k k'
    unfold greater
    rw [Ideal.cmpfTotal_def]
    by_cases hlt : x (ix2 r k') < x (ix2 r k) <;> simp [Ideal.cmp, CmpDirection.ordered, hlt]
  have at0 : (⟨0 + s.val, by omega⟩ : Fin 64) = s.castLE (by decide) := Fin.ext (Nat.zero_add _)
  have sorted : sortedFrom (fun k k' : Fin 64 => FloatOps.cmpfTotal (F := Ideal) (φ := .f32) .gt
      (x (Shape.Idx.along (s := ⟨2, ![16384, 64]⟩) (fun a => ⟨0 + (ix2 r s (a.cast h.1.symm)).val,
        Nat.lt_of_lt_of_le (Nat.add_lt_add_left (ix2 r s _).isLt _) (h.2 a)⟩) 1 k))
      (x (Shape.Idx.along (s := ⟨2, ![16384, 64]⟩) (fun a => ⟨0 + (ix2 r s (a.cast h.1.symm)).val,
        Nat.lt_of_lt_of_le (Nat.add_lt_add_left (ix2 r s _).isLt _) (h.2 a)⟩) 1 k')) == 1#1) ⟨0 + s.val, by omega⟩
      = pick (fun i => x (ix2 r i)) s := by
    unfold pick pos
    refine congrArg₂ sortedFrom (Eq.trans (funext fun k => funext fun k' => ?_) order) at0
    exact congrArg₂ (fun a b => FloatOps.cmpfTotal (F := Ideal) (φ := .f32) .gt (x a) (x b) == 1#1) (along k) (along k')
  unfold Host.topK Host.sort2 extractStridedSlice
  simp only [dif_pos (show 1 < 2 by decide)]
  constructor
  · exact (congrArg x (along _)).trans (congrArg (fun k => x (ix2 r k)) sorted)
  · exact (congrArg (fun i : (⟨2, ![16384, 64]⟩ : Shape).Idx => BitVec.ofNat 32 (i 1).val) (along _)).trans
      (congrArg (fun k : Fin 64 => BitVec.ofNat 32 k.val) sorted)

end Cert.Column

namespace Cert.ReferenceIdeal.Dense
open Cert.ReferenceIdeal Cert.ReferenceIdeal.Gen Idealize.ShloMosaic Idealize.ShloMosaic.TcCoe Idealize.SL.Sem

section Terms
variable {F : FTy → Type} [FloatOps F]

/-- The table of logits. -/
def table (x : FVec F S16384x2048 .f32) (w : FVec F S64x2048 .f32) (b : FVec F S64 .f32) : FVec F S16384x64 .f32 :=
  addf (Host.dotGeneral dot_S16384x2048_S2048x64_S16384x64_1_0_0_1_n_n none x (transpose S2048x64 [1, 0] w transposes_S64x2048_S2048x64_1_0))
    (broadcastInDim S16384x64 ![0, 1] bcast_S1x64_S16384x64_0_1 (broadcastInDim S1x64 ![1] bcast_S64_S1x64_1 b))

/-- The eight greatest logits of each row … -/
def values (l : FVec F S16384x64 .f32) : FVec F S16384x8 .f32 :=
  (Host.topK S16384x8 1 (FloatOps.cmpfTotal .gt) l sliceFits_S16384x64_S16384x8).1

/-- … and their positions. -/
def slots (l : FVec F S16384x64 .f32) : IVec S16384x8 32 :=
  (Host.topK S16384x8 1 (FloatOps.cmpfTotal .gt) l sliceFits_S16384x64_S16384x8).2

/-- A number per row, repeated over the eight slots. -/
def across (p : FVec F S16384 .f32) : FVec F S16384x8 .f32 :=
  broadcastInDim S16384x8 ![0, 1] bcast_S16384x1_S16384x8_0_1 (broadcastInDim S16384x1 ![0] bcast_S16384_S16384x1_0 p)

/-- The greatest of each row's eight. -/
def peak (v : FVec F S16384x8 .f32) : FVec F S16384 .f32 :=
  maximumf (broadcastInDim S16384 ![] bcast_S_S16384 (constant S_ .f32 0xFF800000#32))
    (Host.reduce FloatOps.maximumf v (constant S_ .f32 0xFF800000#32) reducesTo_S16384x8_S16384_d1 h_S_)

/-- The powers of the softmax … -/
def powers (v : FVec F S16384x8 .f32) : FVec F S16384x8 .f32 := Host.exp (subf v (across (peak v)))

/-- … and each over their sum. -/
def shares (v : FVec F S16384x8 .f32) : FVec F S16384x8 .f32 :=
  Host.divf (powers v) (across (Host.reduceAdd (powers v) (constant S_ .f32 0x00000000#32) reducesTo_S16384x8_S16384_d1 h_S_))

/-- The row word of every slot: the row number, a negative one wrapped. -/
def rowWords : IVec S16384x1 32 :=
  select (cmpi .slt (broadcastInDim S16384x1 ![0] bcast_S16384_S16384x1_0 (iotaInDim S16384 32 0)) (broadcastInDim S16384x1 ![] bcast_S_S16384x1 (constantI S_ 32 0#32)))
    (addi (broadcastInDim S16384x1 ![0] bcast_S16384_S16384x1_0 (iotaInDim S16384 32 0)) (broadcastInDim S16384x1 ![] bcast_S_S16384x1 (constantI S_ 32 16384#32)))
    (broadcastInDim S16384x1 ![0] bcast_S16384_S16384x1_0 (iotaInDim S16384 32 0))

/-- The column word of every slot: the position, a negative one wrapped. -/
def colWords (p : IVec S16384x8 32) : IVec S16384x8 32 :=
  select (cmpi .slt p (broadcastInDim S16384x8 ![] bcast_S_S16384x8 (constantI S_ 32 0#32)))
    (addi p (broadcastInDim S16384x8 ![] bcast_S_S16384x8 (constantI S_ 32 64#32))) p

/-- The pair of words of every slot. -/
def targets (p : IVec S16384x8 32) : IVec S16384x8x2 32 :=
  concatenate S16384x8x2 2
    [⟨S16384x8x1, broadcastInDim S16384x8x1 ![0, 1] bcast_S16384x8_S16384x8x1_0_1 (broadcastInDim S16384x8 ![0, 1] bcast_S16384x1_S16384x8_0_1 rowWords)⟩,
     ⟨S16384x8x1, broadcastInDim S16384x8x1 ![0, 1] bcast_S16384x8_S16384x8x1_0_1 (colWords p)⟩]
    concatenates_S16384x8x1_S16384x8x1_S16384x8x2_d2

/-- The shares set at their targets in a table of zeros. -/
def dense (p : IVec S16384x8 32) (u : FVec F S16384x8 .f32) : FVec F S16384x64 .f32 :=
  Host.scatter scatter_S16384x64_S16384x8x2_S16384x8_n_01_01_2 (fun _ b => b)
    (broadcastInDim S16384x64 ![] bcast_S_S16384x64 (constant S_ .f32 0x00000000#32)) (targets p) u

variable (m : (ℓ : Loc nD τ sig) → Buf (Elt F) ℓ) (c : Dev nD)

abbrev tableOf : FVec F S16384x64 .f32 :=
  table (m ((c.tc : Thread nD τ).loc main_arg0)) (m ((c.tc : Thread nD τ).loc main_arg1)) (m ((c.tc : Thread nD τ).loc main_arg2))

theorem result_eq : Value.res_out0 m c = dense (slots (tableOf m c)) (shares (values (tableOf m c))) := rfl

end Terms

theorem table_apply (x : FVec Ideal S16384x2048 .f32) (w : FVec Ideal S64x2048 .f32) (b : FVec Ideal S64 .f32) (r : Fin 16384) (i : Fin 64) :
    table x w b (ix2 r i) = Column.lane x w b r i := by
  pointwise [table, Column.lane]

theorem across_apply (p : FVec Ideal S16384 .f32) (r : Fin 16384) (s : Fin 8) : across p (ix2 r s) = p (ix1 r) := by
  pointwise [across]

theorem rowWords_apply (r : Fin 16384) : rowWords (ix2 r 0) = BitVec.ofNat 32 r.val := by
  have e : rowWords (ix2 r 0) = Scalar.select (IntOp.cmpi .slt (BitVec.ofNat 32 r.val) 0#32) (BitVec.ofNat 32 r.val + 16384#32) (BitVec.ofNat 32 r.val) := rfl
  rw [e]
  exact Routing.wrap_of_lt _ _ (by rw [BitVec.toNat_ofNat]; omega)

theorem colWords_apply (p : IVec S16384x8 32) (r : Fin 16384) (s : Fin 8) (i : Fin 64) (h : p (ix2 r s) = BitVec.ofNat 32 i.val) :
    colWords p (ix2 r s) = BitVec.ofNat 32 i.val := by
  have e : colWords p (ix2 r s) = Scalar.select (IntOp.cmpi .slt (p (ix2 r s)) 0#32) (p (ix2 r s) + 64#32) (p (ix2 r s)) := rfl
  rw [e, h]
  exact Routing.wrap_of_lt _ _ (by rw [BitVec.toNat_ofNat]; omega)

theorem targets_row (p : IVec S16384x8 32) (r : Fin 16384) (s : Fin 8) : targets p (ix3 r s 0) = rowWords (ix2 r 0) := by
  pointwise [targets]

theorem targets_col (p : IVec S16384x8 32) (r : Fin 16384) (s : Fin 8) : targets p (ix3 r s 1) = colWords p (ix2 r s) := by
  pointwise [targets]

theorem rowSum_apply (v : FVec Ideal S16384x8 .f32) (r : Fin 16384) :
    Host.reduceAdd v (constant S_ .f32 0x00000000#32) reducesTo_S16384x8_S16384_d1 h_S_ (ix1 r) = ∑ s : Fin 8, v (ix2 r s) := by
  pointwise

theorem peak_apply (v : FVec Ideal S16384x8 .f32) (r : Fin 16384) :
    peak v (ix1 r) = Finset.univ.fold max ⊥ fun s : Fin 8 => v (ix2 r s) := by
  have h1 : S16384x8.Reduces [1] S16384 := by decide
  have e : peak v (ix1 r) = max (Ideal.ofBits .f32 0xFF800000#32)
      (Host.reduce (max : EReal → EReal → EReal) v (constant S_ .f32 0xFF800000#32) reducesTo_S16384x8_S16384_d1 h_S_ (ix1 r)) := rfl
  rw [e, Host.reduce_eq_fold_single _ _ _ _ h1]
  rw [show constant (F := Ideal) S_ .f32 0xFF800000#32 (Shape.Idx.first h_S_) = ⊥ from KernelIdeal.Rounds.bits_bot, KernelIdeal.Rounds.bits_bot,
    max_eq_right bot_le]
  refine congrArg (Finset.univ.fold max ⊥) (funext fun s => congrArg v ?_)
  funext a
  fin_cases a <;> rfl

theorem quotient_apply (p d : FVec Ideal S16384x8 .f32) (r : Fin 16384) (s : Fin 8) :
    Host.divf p d (ix2 r s) = Ideal.div (p (ix2 r s)) (d (ix2 r s)) := rfl

variable (v : FVec Ideal S16384x8 .f32) (f : Fin 64 → EReal) (r : Fin 16384) (hv : ∀ s : Fin 8, v (ix2 r s) = f (Column.pick f s))
include hv

theorem peak_row : peak v (ix1 r) = f (Column.pick f 0) := by
  rw [peak_apply, ← hv 0]
  refine Column.fold_max (fun s : Fin 8 => v (ix2 r s)) 0 fun s => ?_
  show v (ix2 r s) ≤ v (ix2 r 0)
  rw [hv, hv]
  exact Column.pick_le f s

theorem powers_row (s : Fin 8) : powers v (ix2 r s) = Column.weight f s := by
  have e : powers v (ix2 r s) = Ideal.exp (v (ix2 r s) - across (peak v) (ix2 r s)) := rfl
  rw [e, across_apply, peak_row v f r hv, hv]
  rfl

theorem shares_row (s : Fin 8) : shares v (ix2 r s) = Column.score f (Column.pick f s) := by
  have total : ∑ s : Fin 8, powers v (ix2 r s) = Column.total f := Finset.sum_congr rfl fun s _ => powers_row v f r hv s
  unfold shares
  rw [quotient_apply, across_apply, rowSum_apply, total, powers_row v f r hv, Column.score_pick]

omit hv

/-- Slot `(a, s)` lands at row `a`, at its own column. -/
theorem lands (p : IVec S16384x8 32) (g : Fin 16384 → Fin 8 → Fin 64) (hp : ∀ a s, p (ix2 a s) = BitVec.ofNat 32 (g a s).val)
    (a : Fin 16384) (s : Fin 8) (r : Fin 16384) (i : Fin 64) :
    scatter_S16384x64_S16384x8x2_S16384x8_n_01_01_2.resultIdx? (ix2 a s) (targets p) = some (ix2 r i) ↔ a = r ∧ g a s = i := by
  refine (Routing.scatter_lands2 scatter_S16384x64_S16384x8x2_S16384x8_n_01_01_2 rfl rfl rfl (targets p) a s r i).trans ?_
  have e0 : targets p (ValueIdx.ix3 a s 0) = BitVec.ofNat 32 a.val := (targets_row p a s).trans (rowWords_apply a)
  have e1 : targets p (ValueIdx.ix3 a s 1) = BitVec.ofNat 32 (g a s).val := (targets_col p a s).trans (colWords_apply p a s _ (hp a s))
  have t0 : (BitVec.ofNat 32 a.val).toInt = a.val := by rw [BitVec.toInt_ofNat', Int.bmod_eq_of_le] <;> omega
  rw [e0, e1, t0, KernelIdeal.Rounds.toInt_small, Fin.ext_iff, Fin.ext_iff]
  omega

/-- The table of zeros with the shares set in it is the table of scores. -/
theorem dense_apply (p : IVec S16384x8 32) (u : FVec Ideal S16384x8 .f32) (f : Fin 16384 → Fin 64 → EReal)
    (hp : ∀ a s, p (ix2 a s) = BitVec.ofNat 32 (Column.pick (f a) s).val)
    (hu : ∀ a s, u (ix2 a s) = Column.score (f a) (Column.pick (f a) s)) (r : Fin 16384) (i : Fin 64) :
    dense p u (ix2 r i) = Column.score (f r) i := by
  have land := lands p (fun a => Column.pick (f a)) hp
  have split (k : S16384x8.Idx) : ∃ (a : Fin 16384) (s : Fin 8), k = ix2 a s := ⟨k 0, k 1, by funext b; fin_cases b <;> rfl⟩
  unfold dense
  by_cases hs : ∃ s, Column.pick (f r) s = i
  · obtain ⟨s, hs⟩ := hs
    refine Routing.scatter_set_hit _ _ _ u (ix2 r i) _ (fun k hk => ?_) (ix2 r s) ((land r s r i).mpr ⟨rfl, hs⟩)
    obtain ⟨a, s', rfl⟩ := split k
    obtain ⟨rfl, rfl⟩ := (land a s' r i).mp hk
    exact hu a s'
  · refine (Routing.scatter_set_miss _ _ _ u (ix2 r i) fun k hk => ?_).trans ?_
    · obtain ⟨a, s', rfl⟩ := split k
      obtain ⟨rfl, e⟩ := (land a s' r i).mp hk
      exact hs ⟨s', e⟩
    · rw [Column.score_rest fun s e => hs ⟨s, e⟩]
      exact Ideal.ofBits_zero_f32

section Results
variable (m : (ℓ : Loc nD τ sig) → Buf (Elt Ideal) ℓ) (c : Dev nD)

/-- The logits of token `r` of device `c`'s arguments. -/
abbrev laneOf (r : Fin 16384) : Fin 64 → EReal :=
  Column.lane (m ((c.tc : Thread nD τ).loc main_arg0)) (m ((c.tc : Thread nD τ).loc main_arg1)) (m ((c.tc : Thread nD τ).loc main_arg2)) r

theorem row_eq (r : Fin 16384) : (fun i => tableOf m c (ix2 r i)) = laneOf m c r := funext fun i => table_apply _ _ _ r i

theorem values_apply (r : Fin 16384) (s : Fin 8) : values (tableOf m c) (ix2 r s) = laneOf m c r (Column.pick (laneOf m c r) s) := by
  rw [← row_eq]
  exact (Column.topK_row (tableOf m c) sliceFits_S16384x64_S16384x8 r s).1

theorem slots_apply (r : Fin 16384) (s : Fin 8) : slots (tableOf m c) (ix2 r s) = BitVec.ofNat 32 (Column.pick (laneOf m c r) s).val := by
  rw [← row_eq]
  exact (Column.topK_row (tableOf m c) sliceFits_S16384x64_S16384x8 r s).2

theorem final_scores : Value.res_out0 m c = fun y : S16384x64.Idx => Column.score (laneOf m c (y 0)) (y 1) := by
  rw [result_eq]
  funext y
  obtain ⟨r, i, rfl⟩ : ∃ (r : Fin 16384) (i : Fin 64), y = ix2 r i := ⟨y 0, y 1, by funext b; fin_cases b <;> rfl⟩
  exact dense_apply _ _ (laneOf m c) (slots_apply m c) (fun a s => shares_row _ _ a (values_apply m c a) s) r i

theorem final_picks : slots (tableOf m c) = fun y : S16384x8.Idx => BitVec.ofNat 32 (Column.pick (laneOf m c (y 0)) (y 1)).val := by
  funext y
  obtain ⟨r, i, rfl⟩ : ∃ (r : Fin 16384) (i : Fin 8), y = ix2 r i := ⟨y 0, y 1, by funext b; fin_cases b <;> rfl⟩
  exact slots_apply m c r i

end Results

end Cert.ReferenceIdeal.Dense

/-! ## The precondition at one token -/

namespace Cert.Pre_selected_logits_finite
open Idealize.ShloMosaic

theorem facts : Facts where
  transposes_S64x2048_S2048x64_1_0 := ReferenceIdeal.Gen.transposes_S64x2048_S2048x64_1_0
  bcast_S64_S1x64_1 := ReferenceIdeal.Gen.bcast_S64_S1x64_1
  bcast_S1x64_S16384x64_0_1 := ReferenceIdeal.Gen.bcast_S1x64_S16384x64_0_1
  sliceFits_S16384x64_S16384x8 := ReferenceIdeal.Gen.sliceFits_S16384x64_S16384x8
  bcast_S_S16384x8 := ReferenceIdeal.Gen.bcast_S_S16384x8
  dot_S16384x2048_S2048x64_S16384x64_1_0_0_1_n_n_wf := ReferenceIdeal.Gen.dot_S16384x2048_S2048x64_S16384x64_1_0_0_1_n_n_wf

theorem finite (x : FVec Ideal S16384x2048 .f32) (w : FVec Ideal S64x2048 .f32) (b : FVec Ideal S64 .f32)
    (h : (letI := facts; fn (F := Ideal) x w b) = fun _ => 1#1) (r : Fin 16384) : Column.Finite (Column.lane x w b r) := by
  intro s
  have row : (fun i => ReferenceIdeal.Dense.table x w b (ix2 r i)) = Column.lane x w b r :=
    funext fun i => ReferenceIdeal.Dense.table_apply x w b r i
  have top := (Column.topK_row (ReferenceIdeal.Dense.table x w b) ReferenceIdeal.Gen.sliceFits_S16384x64_S16384x8 r s).1
  have e : IntOp.andi
      (Ideal.cmp .ogt (ReferenceIdeal.Dense.values (ReferenceIdeal.Dense.table x w b) (ix2 r s)) (Ideal.ofBits .f32 0xFF800000#32))
      (Ideal.cmp .olt (ReferenceIdeal.Dense.values (ReferenceIdeal.Dense.table x w b) (ix2 r s)) (Ideal.ofBits .f32 0x7F800000#32)) = 1#1 :=
    congrFun h (ix2 r s)
  have val : ReferenceIdeal.Dense.values (ReferenceIdeal.Dense.table x w b) (ix2 r s) = Column.lane x w b r (Column.pick (Column.lane x w b r) s) := by
    rw [← row]; exact top
  rw [val, KernelIdeal.Rounds.bits_bot, KernelIdeal.Rounds.bits_top] at e
  generalize Column.lane x w b r (Column.pick (Column.lane x w b r) s) = y at e
  by_cases h1 : ⊥ < y <;> by_cases h2 : y < ⊤
  · exact ⟨h1, h2⟩
  all_goals simp [Ideal.cmp, h1, h2, IntOp.andi] at e

end Cert.Pre_selected_logits_finite
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Tiles
public import proofs.«01_k».proof.Proof.Dense
public import Idealize.ShloMosaic.Adequacy
public import Idealize.ShloMosaic.Init

@[expose] public section

noncomputable section

namespace Cert.Proof

open Idealize.ShloMosaic Idealize.SL.Sem Cert.Kernel

/-- The reference's frame: its run leaves the arguments, and it declares no semaphore. -/
theorem frame_reference : Cert.quiescent_ReferenceIdeal := fun m ρ _ =>
  (θ_run Cert.ReferenceIdeal.defs _ _).mono
    (fun _ h => ⟨fun c => (h c).2.2, funext fun g => by
      obtain ⟨_, sm⟩ := g
      rcases sm with ⟨sm⟩ | sm <;> exact sm.elim0⟩)
    (Cert.ReferenceIdeal.Value.run m ρ)

/-- On the extended reals both programs leave, for each token, its column's scores and its column's picks. -/
theorem algebraic : Cert.algebraic_KernelIdeal_ReferenceIdeal_pre_selected_logits_finite
    (hKernelIdeal := Cert.KernelIdeal.Gen.facts) (hReferenceIdeal := Cert.ReferenceIdeal.Gen.facts)
    (hPre_selected_logits_finite := Cert.Pre_selected_logits_finite.facts) := by
  intro m g m' g' pre args
  have fin (c : Dev Cert.KernelIdeal.nD) (r : Fin 16384) : Cert.Column.Finite (Cert.KernelIdeal.Rounds.laneOf m c r) :=
    Cert.Pre_selected_logits_finite.finite _ _ _ (pre c) r
  have lanes (c : Dev Cert.KernelIdeal.nD) : Cert.ReferenceIdeal.Dense.laneOf m' c = Cert.KernelIdeal.Rounds.laneOf m c := by
    funext r
    unfold Cert.ReferenceIdeal.Dense.laneOf Cert.KernelIdeal.Rounds.laneOf
    rw [(args c).1, (args c).2.1, (args c).2.2]
  refine ⟨fun c y => Cert.Column.score (Cert.KernelIdeal.Rounds.laneOf m c (y 0)) (y 1),
    fun c y => BitVec.ofNat 32 (Cert.Column.pick (Cert.KernelIdeal.Rounds.laneOf m c (y 0)) (y 1)).val, ?_, ?_⟩
  · refine (θ_run Cert.KernelIdeal.defs _ _).mono (fun r h c => ?_) (Cert.KernelIdeal.Value.run_blocks m g)
    exact ⟨(h c).1.trans (Cert.KernelIdeal.Rounds.final_scores m c (fin c)),
      (h c).2.1.trans (Cert.KernelIdeal.Rounds.final_picks m c (fin c)), (h c).2.2⟩
  · refine (θ_run Cert.ReferenceIdeal.defs _ _).mono (fun r h c => ?_) (Cert.ReferenceIdeal.Value.run m' g')
    have scores := Cert.ReferenceIdeal.Dense.final_scores m' c
    have picks := Cert.ReferenceIdeal.Dense.final_picks m' c
    rw [lanes c] at scores picks
    exact ⟨(h c).1.trans scores, (h c).2.1.trans picks, (h c).2.2⟩

theorem claim : Cert.Claim := ⟨Cert.Kernel.Gen.facts, Cert.KernelIdeal.Gen.facts, Cert.ReferenceIdeal.Gen.facts,
  Cert.Pre_selected_logits_finite.facts,
  fun m ρ _ => Cert.Kernel.Gen.frame m ρ, fun m ρ _ => Cert.KernelIdeal.Gen.frame m ρ,
  fun m ρ _ => Cert.KernelIdeal.Gen.frame m ρ, frame_reference, fun m ρ _ => frame_reference m ρ trivial, trivial, algebraic⟩

end Cert.Proof

end
